-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "slope" .bf16 0x3E4D#16 ((13421773 / 67108864 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x120 : Shape := ⟨2, ![512, 120]⟩
abbrev S512x256 : Shape := ⟨2, ![512, 256]⟩
abbrev S128x128 : Shape := ⟨2, ![128, 128]⟩
abbrev S4x32 : Shape := ⟨2, ![4, 32]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S256x64 : Shape := ⟨2, ![256, 64]⟩
abbrev S256 : Shape := ⟨1, ![256]⟩
abbrev S_ : Shape := ⟨0, ![]⟩
abbrev S256x128 : Shape := ⟨2, ![256, 128]⟩

class Facts : Prop where
  bcast_S_S512x120 : S_.BroadcastsInDim S512x120 (![] : Fin 0 → Fin S512x120.rank)
  reducesTo_S512x120_S_d0_1 : S512x120.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S128x128 : S_.BroadcastsInDim S128x128 (![] : Fin 0 → Fin S128x128.rank)
  reducesTo_S128x128_S_d0_1 : S128x128.ReducesTo [0, 1] S_
  bcast_S_S4x32 : S_.BroadcastsInDim S4x32 (![] : Fin 0 → Fin S4x32.rank)
  reducesTo_S4x32_S_d0_1 : S4x32.ReducesTo [0, 1] S_
  bcast_S_S128 : S_.BroadcastsInDim S128 (![] : Fin 0 → Fin S128.rank)
  reducesTo_S128_S_d0 : S128.ReducesTo [0] S_
  slices_S384x128_S256x128_0_0 : S384x128.Slices ![0, 0] S256x128
  bcast_S_S256x128 : S_.BroadcastsInDim S256x128 (![] : Fin 0 → Fin S256x128.rank)
  reducesTo_S256x128_S_d0_1 : S256x128.ReducesTo [0, 1] S_
  slices_S384_S256_0 : S384.Slices ![0] S256
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S384 .f32) (main_v48 : IVec S_ 1) (main_v50 : FVec F S256x128 .f32) (main_cst_18 : FVec F S_ .f32) : IVec S_ 1 :=
  let main_v51 : FVec F S256x128 .f32 := broadcastInDim S256x128 ![] bcast_S_S256x128 main_cst_18
  let main_v52 : IVec S256x128 1 := cmpf .olt main_v50 main_v51
  let main_c_19 : IVec S_ 1 := constantI S_ 1 1#1
  let main_v53 : IVec S_ 1 := (fun x v => Host.reduce IntOp.andi x v reducesTo_S256x128_S_d0_1 h_S_) main_v52 main_c_19
  let main_v54 : IVec S_ 1 := andi main_v48 main_v53
  let main_v55 : FVec F S256 .f32 := (extractStridedSlice S256 ![0] · slices_S384_S256_0) main_arg11
  let main_v56 : FVec F S256 .f32 := Host.absf main_v55
  let main_cst_20 : FVec F S_ .f32 := constant S_ .f32 0x7F800000#32
  let main_v57 : FVec F S256 .f32 := broadcastInDim S256 ![] bcast_S_S256 main_cst_20
  let main_v58 : IVec S256 1 := cmpf .olt main_v56 main_v57
  let main_c_21 : IVec S_ 1 := constantI S_ 1 1#1
  let main_v59 : IVec S_ 1 := (fun x v => Host.reduce IntOp.andi x v reducesTo_S256_S_d0 h_S_) main_v58 main_c_21
  let main_v60 : IVec S_ 1 := andi main_v54 main_v59
  main_v60

def fn_part2 {F : FTy → Type} [FloatOps F] (main_arg7 : FVec F S4x32 .f32) (main_arg8 : FVec F S4x32 .f32) (main_arg9 : FVec F S128 .f32) (main_arg10 : FVec F S384x128 .f32) (main_arg11 : FVec F S384 .f32) (main_v33 : IVec S_ 1) : IVec S_ 1 :=
  let main_v34 : FVec F S4x32 .f32 := Host.absf main_arg7
  let main_cst_12 : FVec F S_ .f32 := constant S_ .f32 0x7F800000#32
  let main_v35 : FVec F S4x32 .f32 := broadcastInDim S4x32 ![] bcast_S_S4x32 main_cst_12
  let main_v36 : IVec S4x32 1 := cmpf .olt main_v34 main_v35
  let main_c_13 : IVec S_ 1 := constantI S_ 1 1#1
  let main_v37 : IVec S_ 1 := (fun x v => Host.reduce IntOp.andi x v reducesTo_S4x32_S_d0_1 h_S_) main_v36 main_c_13
  let main_v38 : IVec S_ 1 := andi main_v33 main_v37
  let main_v39 : FVec F S4x32 .f32 := Host.absf main_arg8
  let main_cst_14 : FVec F S_ .f32 := constant S_ .f32 0x7F800000#32
  let main_v40 : FVec F S4x32 .f32 := broadcastInDim S4x32 ![] bcast_S_S4x32 main_cst_14
  let main_v41 : IVec S4x32 1 := cmpf .olt main_v39 main_v40
  let main_c_15 : IVec S_ 1 := constantI S_ 1 1#1
  let main_v42 : IVec S_ 1 := (fun x v => Host.reduce IntOp.andi x v reducesTo_S4x32_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := (extractStridedSlice S256x128 ![0, 0] · slices_S384x128_S256x128_0_0) main_arg10
  let main_v50 : FVec F S256x128 .f32 := Host.absf main_v49
  let main_cst_18 : FVec F S_ .f32 := constant S_ .f32 0x7F800000#32
  fn_part3 (F := F) main_arg11 main_v48 main_v50 main_cst_18

def fn_part1 {F : FTy → Type} [FloatOps F] (main_arg4 : FVec F S4x32 .f32) (main_arg5 : FVec F S128 .f32) (main_arg6 : FVec F S128x128 .f32) (main_arg7 : FVec F S4x32 .f32) (main_arg8 : FVec F S4x32 .f32) (main_arg9 : FVec F S128 .f32) (main_arg10 : FVec F S384x128 .f32) (main_arg11 : FVec F S384 .f32) (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  let main_v19 : FVec F S4x32 .f32 := Host.absf main_arg4
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x120 .f32) (main_arg1 : FVec F S512x256 .f32) (main_arg2 : FVec F S128x128 .f32) (main_arg3 : FVec F S4x32 .f32) (main_arg4 : FVec F S4x32 .f32) (main_arg5 : FVec F S128 .f32) (main_arg6 : FVec F S128x128 .f32) (main_arg7 : FVec F S4x32 .f32) (main_arg8 : FVec F S4x32 .f32) (main_arg9 : FVec F S128 .f32) (main_arg10 : FVec F S384x128 .f32) (main_arg11 : FVec F S384 .f32) (main_arg12 : FVec F S128x128 .f32) (main_arg13 : FVec F S128 .f32) (main_arg14 : FVec F S64x128 .f32) (main_arg15 : FVec F S64 .f32) (main_arg16 : FVec F S256x64 .f32) (main_arg17 : FVec F S256 .f32) : IVec S_ 1 :=
  let main_v0 : FVec F S512x120 .f32 := Host.absf main_arg0
  let main_cst : FVec F S_ .f32 := constant S_ .f32 0x7F800000#32
  let main_v1 : FVec F S512x120 .f32 := broadcastInDim S512x120 ![] bcast_S_S512x120 main_cst
  let main_v2 : IVec S512x120 1 := cmpf .olt main_v0 main_v1
  let main_c : IVec S_ 1 := constantI S_ 1 1#1
  let main_v3 : IVec S_ 1 := (fun x v => Host.reduce IntOp.andi x v reducesTo_S512x120_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_arg4 main_arg5 main_arg6 main_arg7 main_arg8 main_arg9 main_arg10 main_arg11 main_v13 main_v16
-- ==== Kernel.lean ====
abbrev S512x120 : Shape := ⟨2, ![512, 120]⟩
abbrev S512x256 : Shape := ⟨2, ![512, 256]⟩
abbrev S128x128 : Shape := ⟨2, ![128, 128]⟩
abbrev S4x32 : Shape := ⟨2, ![4, 32]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S256x64 : Shape := ⟨2, ![256, 64]⟩
abbrev S256 : Shape := ⟨1, ![256]⟩
abbrev S128x1 : Shape := ⟨2, ![128, 1]⟩
abbrev S128x4 : Shape := ⟨2, ![128, 4]⟩
abbrev S_ : Shape := ⟨0, ![]⟩
abbrev S888x128 : Shape := ⟨2, ![888, 128]⟩
abbrev S1x128 : Shape := ⟨2, ![1, 128]⟩
abbrev S1x64 : Shape := ⟨2, ![1, 64]⟩
abbrev S2x128 : Shape := ⟨2, ![2, 128]⟩
abbrev S256x120 : Shape := ⟨2, ![256, 120]⟩
abbrev S256x256 : Shape := ⟨2, ![256, 256]⟩
abbrev S128x8 : Shape := ⟨2, ![128, 8]⟩
abbrev S256x8 : Shape := ⟨2, ![256, 8]⟩
abbrev S256x128 : Shape := ⟨2, ![256, 128]⟩
abbrev S256x1x128 : Shape := ⟨3, ![256, 1, 128]⟩
abbrev S256x32x128 : Shape := ⟨3, ![256, 32, 128]⟩
abbrev S128x120 : Shape := ⟨2, ![128, 120]⟩
abbrev S8192x128 : Shape := ⟨2, ![8192, 128]⟩
abbrev S32x128 : Shape := ⟨2, ![32, 128]⟩
abbrev S1x32x128 : Shape := ⟨3, ![1, 32, 128]⟩
abbrev S256x128x128 : Shape := ⟨3, ![256, 128, 128]⟩
abbrev S1x1x128 : Shape := ⟨3, ![1, 1, 128]⟩
abbrev S1x256 : Shape := ⟨2, ![1, 256]⟩

abbrev nBuf : Space → Nat
  | .hbm => 87
  | .vmem => 7
  | .smem => 0
  | _ => 0

abbrev bufTy : (tb : Table) → Fin (tcTables nBuf tb) → BufTy
  | .hbm, ⟨0, _⟩ => ⟨S512x120, .f32⟩
  | .hbm, ⟨1, _⟩ => ⟨S512x256, .f32⟩
  | .hbm, ⟨2, _⟩ => ⟨S128x128, .f32⟩
  | .hbm, ⟨3, _⟩ => ⟨S4x32, .f32⟩
  | .hbm, ⟨4, _⟩ => ⟨S4x32, .f32⟩
  | .hbm, ⟨5, _⟩ => ⟨S128, .f32⟩
  | .hbm, ⟨6, _⟩ => ⟨S128x128, .f32⟩
  | .hbm, ⟨7, _⟩ => ⟨S4x32, .f32⟩
  | .hbm, ⟨8, _⟩ => ⟨S4x32, .f32⟩
  | .hbm, ⟨9, _⟩ => ⟨S128, .f32⟩
  | .hbm, ⟨10, _⟩ => ⟨S384x128, .f32⟩
  | .hbm, ⟨11, _⟩ => ⟨S384, .f32⟩
  | .hbm, ⟨12, _⟩ => ⟨S128x128, .f32⟩
  | .hbm, ⟨13, _⟩ => ⟨S128, .f32⟩
  | .hbm, ⟨14, _⟩ => ⟨S64x128, .f32⟩
  | .hbm, ⟨15, _⟩ => ⟨S64, .f32⟩
  | .hbm, ⟨16, _⟩ => ⟨S256x64, .f32⟩
  | .hbm, ⟨17, _⟩ => ⟨S256, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x1, .f32⟩
  | .hbm, ⟨26, _⟩ => ⟨S128x4, .f32⟩
  | .hbm, ⟨27, _⟩ => ⟨S_, .i32⟩
  | .hbm, ⟨28, _⟩ => ⟨S_, .f32⟩
  | .hbm, ⟨29, _⟩ => ⟨S888x128, .f32⟩
  | .hbm, ⟨30, _⟩ => ⟨S_, .i32⟩
  | .hbm, ⟨31, _⟩ => ⟨S_, .f32⟩
  | .hbm, ⟨32, _⟩ => ⟨S888x128, .f32⟩
  | .hbm, ⟨33, _⟩ => ⟨S888x128, .f32⟩
  | .hbm, ⟨34, _⟩ => ⟨S128x128, .f32⟩
  | .hbm, ⟨35, _⟩ => ⟨S_, .i32⟩
  | .hbm, ⟨36, _⟩ => ⟨S_, .f32⟩
  | .hbm, ⟨37, _⟩ => ⟨S888x128, .f32⟩
  | .hbm, ⟨38, _⟩ => ⟨S888x128, .f32⟩
  | .hbm, ⟨39, _⟩ => ⟨S_, .i32⟩
  | .hbm, ⟨40, _⟩ => ⟨S_, .f32⟩
  | .hbm, ⟨41, _⟩ => ⟨S888x128, .f32⟩
  | .hbm, ⟨42, _⟩ => ⟨S888x128, .f32⟩
  | .hbm, ⟨43, _⟩ => ⟨S_, .i32⟩
  | .hbm, ⟨44, _⟩ => ⟨S_, .f32⟩
  | .hbm, ⟨45, _⟩ => ⟨S888x128, .f32⟩
  | .hbm, ⟨46, _⟩ => ⟨S888x128, .f32⟩
  | .hbm, ⟨47, _⟩ => ⟨S_, .i32⟩
  | .hbm, ⟨48, _⟩ => ⟨S_, .f32⟩
  | .hbm, ⟨49, _⟩ => ⟨S888x128, .f32⟩
  | .hbm, ⟨50, _⟩ => ⟨S888x128, .f32⟩
  | .hbm, ⟨51, _⟩ => ⟨S_, .i32⟩
  | .hbm, ⟨52, _⟩ => ⟨S_, .f32⟩
  | .hbm, ⟨53, _⟩ => ⟨S888x128, .f32⟩
  | .hbm, ⟨54, _⟩ => ⟨S888x128, .f32⟩
  | .hbm, ⟨55, _⟩ => ⟨S1x128, .f32⟩
  | .hbm, ⟨56, _⟩ => ⟨S_, .i32⟩
  | .hbm, ⟨57, _⟩ => ⟨S_, .f32⟩
  | .hbm, ⟨58, _⟩ => ⟨S888x128, .f32⟩
  | .hbm, ⟨59, _⟩ => ⟨S888x128, .f32⟩
  | .hbm, ⟨60, _⟩ => ⟨S1x128, .f32⟩
  | .hbm, ⟨61, _⟩ => ⟨S_, .i32⟩
  | .hbm, ⟨62, _⟩ => ⟨S_, .f32⟩
  | .hbm, ⟨63, _⟩ => ⟨S888x128, .f32⟩
  | .hbm, ⟨64, _⟩ => ⟨S888x128, .f32⟩
  | .hbm, ⟨65, _⟩ => ⟨S128, .f32⟩
  | .hbm, ⟨66, _⟩ => ⟨S1x128, .f32⟩
  | .hbm, ⟨67, _⟩ => ⟨S_, .i32⟩
  | .hbm, ⟨68, _⟩ => ⟨S_, .f32⟩
  | .hbm, ⟨69, _⟩ => ⟨S888x128, .f32⟩
  | .hbm, ⟨70, _⟩ => ⟨S888x128, .f32⟩
  | .hbm, ⟨71, _⟩ => ⟨S1x128, .f32⟩
  | .hbm, ⟨72, _⟩ => ⟨S_, .i32⟩
  | .hbm, ⟨73, _⟩ => ⟨S_, .f32⟩
  | .hbm, ⟨74, _⟩ => ⟨S888x128, .f32⟩
  | .hbm, ⟨75, _⟩ => ⟨S888x128, .f32⟩
  | .hbm, ⟨76, _⟩ => ⟨S1x64, .f32⟩
  | .hbm, ⟨77, _⟩ => ⟨S_, .i32⟩
  | .hbm, ⟨78, _⟩ => ⟨S_, .f32⟩
  | .hbm, ⟨79, _⟩ => ⟨S888x128, .f32⟩
  | .hbm, ⟨80, _⟩ => ⟨S888x128, .f32⟩
  | .hbm, ⟨81, _⟩ => ⟨S2x128, .f32⟩
  | .hbm, ⟨82, _⟩ => ⟨S_, .i32⟩
  | .hbm, ⟨83, _⟩ => ⟨S_, .f32⟩
  | .hbm, ⟨84, _⟩ => ⟨S888x128, .f32⟩
  | .hbm, ⟨85, _⟩ => ⟨S888x128, .f32⟩
  | .hbm, ⟨86, _⟩ => ⟨S512x256, .f32⟩
  | .local _ .vmem, ⟨0, _⟩ => ⟨S256x120, .f32⟩
  | .local _ .vmem, ⟨1, _⟩ => ⟨S256x120, .f32⟩
  | .local _ .vmem, ⟨2, _⟩ => ⟨S256x256, .f32⟩
  | .local _ .vmem, ⟨3, _⟩ => ⟨S256x256, .f32⟩
  | .local _ .vmem, ⟨4, _⟩ => ⟨S888x128, .f32⟩
  | .local _ .vmem, ⟨5, _⟩ => ⟨S256x256, .f32⟩
  | .local _ .vmem, ⟨6, _⟩ => ⟨S256x256, .f32⟩
  | _, _ => ⟨S512x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_call0_v0 : Ref sig .tc := ⟨.hbm, 28, rfl⟩
abbrev main_call0_v9 : Ref sig .tc := ⟨.hbm, 29, rfl⟩
abbrev main_call0_c_0 : Ref sig .tc := ⟨.hbm, 30, rfl⟩
abbrev main_call0_call1_v0 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_c_1 : Ref sig .tc := ⟨.hbm, 35, rfl⟩
abbrev main_call0_call2_v0 : Ref sig .tc := ⟨.hbm, 36, rfl⟩
abbrev main_call0_v13 : Ref sig .tc := ⟨.hbm, 37, rfl⟩
abbrev main_call0_v14 : Ref sig .tc := ⟨.hbm, 38, rfl⟩
abbrev main_call0_c_2 : Ref sig .tc := ⟨.hbm, 39, rfl⟩
abbrev main_call0_call3_v0 : Ref sig .tc := ⟨.hbm, 40, rfl⟩
abbrev main_call0_v15 : Ref sig .tc := ⟨.hbm, 41, rfl⟩
abbrev main_call0_v16 : Ref sig .tc := ⟨.hbm, 42, rfl⟩
abbrev main_call0_c_3 : Ref sig .tc := ⟨.hbm, 43, rfl⟩
abbrev main_call0_call4_v0 : Ref sig .tc := ⟨.hbm, 44, rfl⟩
abbrev main_call0_v17 : Ref sig .tc := ⟨.hbm, 45, rfl⟩
abbrev main_call0_v18 : Ref sig .tc := ⟨.hbm, 46, rfl⟩
abbrev main_call0_c_4 : Ref sig .tc := ⟨.hbm, 47, rfl⟩
abbrev main_call0_call5_v0 : Ref sig .tc := ⟨.hbm, 48, rfl⟩
abbrev main_call0_v19 : Ref sig .tc := ⟨.hbm, 49, rfl⟩
abbrev main_call0_v20 : Ref sig .tc := ⟨.hbm, 50, rfl⟩
abbrev main_call0_c_5 : Ref sig .tc := ⟨.hbm, 51, rfl⟩
abbrev main_call0_call6_v0 : Ref sig .tc := ⟨.hbm, 52, rfl⟩
abbrev main_call0_v21 : Ref sig .tc := ⟨.hbm, 53, rfl⟩
abbrev main_call0_v22 : Ref sig .tc := ⟨.hbm, 54, rfl⟩
abbrev main_call0_v23 : Ref sig .tc := ⟨.hbm, 55, rfl⟩
abbrev main_call0_c_6 : Ref sig .tc := ⟨.hbm, 56, rfl⟩
abbrev main_call0_call7_v0 : Ref sig .tc := ⟨.hbm, 57, rfl⟩
abbrev main_call0_v24 : Ref sig .tc := ⟨.hbm, 58, rfl⟩
abbrev main_call0_v25 : Ref sig .tc := ⟨.hbm, 59, rfl⟩
abbrev main_call0_v26 : Ref sig .tc := ⟨.hbm, 60, rfl⟩
abbrev main_call0_c_7 : Ref sig .tc := ⟨.hbm, 61, rfl⟩
abbrev main_call0_call8_v0 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_c_8 : Ref sig .tc := ⟨.hbm, 67, rfl⟩
abbrev main_call0_call9_v0 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_c_9 : Ref sig .tc := ⟨.hbm, 72, rfl⟩
abbrev main_call0_call10_v0 : Ref sig .tc := ⟨.hbm, 73, rfl⟩
abbrev main_call0_v34 : Ref sig .tc := ⟨.hbm, 74, rfl⟩
abbrev main_call0_v35 : Ref sig .tc := ⟨.hbm, 75, rfl⟩
abbrev main_call0_v36 : Ref sig .tc := ⟨.hbm, 76, rfl⟩
abbrev main_call0_c_10 : Ref sig .tc := ⟨.hbm, 77, rfl⟩
abbrev main_call0_call11_v0 : Ref sig .tc := ⟨.hbm, 78, rfl⟩
abbrev main_call0_v37 : Ref sig .tc := ⟨.hbm, 79, rfl⟩
abbrev main_call0_v38 : Ref sig .tc := ⟨.hbm, 80, rfl⟩
abbrev main_call0_v39 : Ref sig .tc := ⟨.hbm, 81, rfl⟩
abbrev main_call0_c_11 : Ref sig .tc := ⟨.hbm, 82, rfl⟩
abbrev main_call0_call12_v0 : Ref sig .tc := ⟨.hbm, 83, rfl⟩
abbrev main_call0_v40 : Ref sig .tc := ⟨.hbm, 84, rfl⟩
abbrev main_call0_v41 : Ref sig .tc := ⟨.hbm, 85, rfl⟩
abbrev main_v0 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S888x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "slope" => some ((13421773 / 67108864 : ℝ) : EReal)
  | _ => none
-- ==== ReferenceIdeal.lean ====
abbrev S512x120 : Shape := ⟨2, ![512, 120]⟩
abbrev S512x256 : Shape := ⟨2, ![512, 256]⟩
abbrev S128x128 : Shape := ⟨2, ![128, 128]⟩
abbrev S4x32 : Shape := ⟨2, ![4, 32]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S256x64 : Shape := ⟨2, ![256, 64]⟩
abbrev S256 : Shape := ⟨1, ![256]⟩
abbrev S512x32x8 : Shape := ⟨3, ![512, 32, 8]⟩
abbrev S_ : Shape := ⟨0, ![]⟩
abbrev S512x32x120 : Shape := ⟨3, ![512, 32, 120]⟩
abbrev S1 : Shape := ⟨1, ![1]⟩
abbrev S512x32x128 : Shape := ⟨3, ![512, 32, 128]⟩
abbrev S16384x128 : Shape := ⟨2, ![16384, 128]⟩
abbrev S992 : Shape := ⟨1, ![992]⟩
abbrev S512 : Shape := ⟨1, ![512]⟩
abbrev S512x1 : Shape := ⟨2, ![512, 1]⟩
abbrev S1x992 : Shape := ⟨2, ![1, 992]⟩
abbrev S512x992 : Shape := ⟨2, ![512, 992]⟩
abbrev S507904 : Shape := ⟨1, ![507904]⟩
abbrev S16384x4x32 : Shape := ⟨3, ![16384, 4, 32]⟩
abbrev S1x4x32 : Shape := ⟨3, ![1, 4, 32]⟩
abbrev S16384x4 : Shape := ⟨2, ![16384, 4]⟩
abbrev S507904x1 : Shape := ⟨2, ![507904, 1]⟩
abbrev S507904x4 : Shape := ⟨2, ![507904, 4]⟩
abbrev S1x507904 : Shape := ⟨2, ![1, 507904]⟩
abbrev S16384 : Shape := ⟨1, ![16384]⟩
abbrev S16384x1 : Shape := ⟨2, ![16384, 1]⟩
abbrev S16384x507904 : Shape := ⟨2, ![16384, 507904]⟩
abbrev S16384x507904x1 : Shape := ⟨3, ![16384, 507904, 1]⟩
abbrev S1x507904x4 : Shape := ⟨3, ![1, 507904, 4]⟩
abbrev S16384x507904x4 : Shape := ⟨3, ![16384, 507904, 4]⟩
abbrev S507904x4x32 : Shape := ⟨3, ![507904, 4, 32]⟩
abbrev S507904x4x1 : Shape := ⟨3, ![507904, 4, 1]⟩
abbrev S1x128 : Shape := ⟨2, ![1, 128]⟩
abbrev S512x128 : Shape := ⟨2, ![512, 128]⟩
abbrev S512x1x128 : Shape := ⟨3, ![512, 1, 128]⟩
abbrev S128x384 : Shape := ⟨2, ![128, 384]⟩
abbrev S512x1x384 : Shape := ⟨3, ![512, 1, 384]⟩
abbrev S1x1x384 : Shape := ⟨3, ![1, 1, 384]⟩
abbrev S512x1x4x32 : Shape := ⟨4, ![512, 1, 4, 32]⟩
abbrev S512x4x1x32 : Shape := ⟨4, ![512, 4, 1, 32]⟩
abbrev S512x4x32x1 : Shape := ⟨4, ![512, 4, 32, 1]⟩
abbrev S512x4x1x1 : Shape := ⟨4, ![512, 4, 1, 1]⟩
abbrev S1x1 : Shape := ⟨2, ![1, 1]⟩
abbrev S1x1x1x1 : Shape := ⟨4, ![1, 1, 1, 1]⟩
abbrev S512x4x1 : Shape := ⟨3, ![512, 4, 1]⟩
abbrev S1x1x128 : Shape := ⟨3, ![1, 1, 128]⟩
abbrev S128x64 : Shape := ⟨2, ![128, 64]⟩
abbrev S512x64 : Shape := ⟨2, ![512, 64]⟩
abbrev S1x64 : Shape := ⟨2, ![1, 64]⟩
abbrev S64x256 : Shape := ⟨2, ![64, 256]⟩
abbrev S1x256 : Shape := ⟨2, ![1, 256]⟩

abbrev nBuf : Space → Nat
  | .hbm => 362
  | .vmem => 0
  | .smem => 0
  | _ => 0

abbrev hbmTy0_0 (i : Nat) : BufTy := match i % 128 with
  | 0 => ⟨S512x120, .f32⟩
  | 1 => ⟨S512x256, .f32⟩
  | 2 => ⟨S128x128, .f32⟩
  | 3 => ⟨S4x32, .f32⟩
  | 4 => ⟨S4x32, .f32⟩
  | 5 => ⟨S128, .f32⟩
  | 6 => ⟨S128x128, .f32⟩
  | 7 => ⟨S4x32, .f32⟩
  | 8 => ⟨S4x32, .f32⟩
  | 9 => ⟨S128, .f32⟩
  | 10 => ⟨S384x128, .f32⟩
  | 11 => ⟨S384, .f32⟩
  | 12 => ⟨S128x128, .f32⟩
  | 13 => ⟨S128, .f32⟩
  | 14 => ⟨S64x128, .f32⟩
  | 15 => ⟨S64, .f32⟩
  | 16 => ⟨S256x64, .f32⟩
  | 17 => ⟨S256, .f32⟩
  | 18 => ⟨S512x32x8, .f32⟩
  | 19 => ⟨S_, .f32⟩
  | 20 => ⟨S512x32x120, .f32⟩
  | 21 => ⟨S_, .i32⟩
  | 22 => ⟨S1, .i32⟩
  | 23 => ⟨S512x32x120, .f32⟩
  | 24 => ⟨S512x32x128, .f32⟩
  | 25 => ⟨S16384x128, .f32⟩
  | 26 => ⟨S992, .i32⟩
  | 27 => ⟨S_, .i32⟩
  | 28 => ⟨S992, .i32⟩
  | 29 => ⟨S992, .i32⟩
  | 30 => ⟨S_, .i32⟩
  | 31 => ⟨S992, .i32⟩
  | 32 => ⟨S992, .i32⟩
  | 33 => ⟨S992, .i1⟩
  | 34 => ⟨S992, .i32⟩
  | 35 => ⟨S992, .i32⟩
  | 36 => ⟨S512, .i32⟩
  | 37 => ⟨S_, .i32⟩
  | 38 => ⟨S512, .i32⟩
  | 39 => ⟨S512, .i32⟩
  | 40 => ⟨S512x1, .i32⟩
  | 41 => ⟨S1x992, .i32⟩
  | 42 => ⟨S512x992, .i32⟩
  | 43 => ⟨S512x992, .i32⟩
  | 44 => ⟨S512x992, .i32⟩
  | 45 => ⟨S507904, .i32⟩
  | 46 => ⟨S512x1, .i32⟩
  | 47 => ⟨S1x992, .i32⟩
  | 48 => ⟨S512x992, .i32⟩
  | 49 => ⟨S512x992, .i32⟩
  | 50 => ⟨S512x992, .i32⟩
  | 51 => ⟨S507904, .i32⟩
  | 52 => ⟨S128x128, .f32⟩
  | 53 => ⟨S16384x128, .f32⟩
  | 54 => ⟨S16384x4x32, .f32⟩
  | 55 => ⟨S1x4x32, .f32⟩
  | 56 => ⟨S16384x4x32, .f32⟩
  | 57 => ⟨S16384x4x32, .f32⟩
  | 58 => ⟨S_, .f32⟩
  | 59 => ⟨S16384x4, .f32⟩
  | 60 => ⟨S1x4x32, .f32⟩
  | 61 => ⟨S16384x4x32, .f32⟩
  | 62 => ⟨S16384x4x32, .f32⟩
  | 63 => ⟨S_, .f32⟩
  | 64 => ⟨S16384x4, .f32⟩
  | 65 => ⟨S_, .i32⟩
  | 66 => ⟨S507904, .i32⟩
  | 67 => ⟨S507904, .i1⟩
  | 68 => ⟨S_, .i32⟩
  | 69 => ⟨S507904, .i32⟩
  | 70 => ⟨S507904, .i32⟩
  | 71 => ⟨S507904, .i32⟩
  | 72 => ⟨S507904x1, .i32⟩
  | 73 => ⟨S507904x4, .f32⟩
  | 74 => ⟨S_, .i32⟩
  | 75 => ⟨S507904, .i32⟩
  | 76 => ⟨S507904, .i1⟩
  | 77 => ⟨S_, .i32⟩
  | 78 => ⟨S507904, .i32⟩
  | 79 => ⟨S507904, .i32⟩
  | 80 => ⟨S507904, .i32⟩
  | 81 => ⟨S507904x1, .i32⟩
  | 82 => ⟨S507904x4, .f32⟩
  | 83 => ⟨S507904x4, .f32⟩
  | 84 => ⟨S_, .f32⟩
  | 85 => ⟨S_, .f32⟩
  | 86 => ⟨S507904x4, .f32⟩
  | 87 => ⟨S507904x4, .i1⟩
  | 88 => ⟨S_, .f32⟩
  | 89 => ⟨S507904x4, .f32⟩
  | 90 => ⟨S507904x4, .f32⟩
  | 91 => ⟨S507904x4, .f32⟩
  | 92 => ⟨S1x507904, .i32⟩
  | 93 => ⟨S16384, .i32⟩
  | 94 => ⟨S16384x1, .i32⟩
  | 95 => ⟨S16384x507904, .i32⟩
  | 96 => ⟨S16384x507904, .i32⟩
  | 97 => ⟨S16384x507904, .i1⟩
  | 98 => ⟨S16384x507904x1, .i1⟩
  | 99 => ⟨S1x507904x4, .f32⟩
  | 100 => ⟨S_, .f32⟩
  | 101 => ⟨S_, .f32⟩
  | 102 => ⟨S16384x507904x4, .i1⟩
  | 103 => ⟨S16384x507904x4, .f32⟩
  | 104 => ⟨S16384x507904x4, .f32⟩
  | 105 => ⟨S16384x507904x4, .f32⟩
  | 106 => ⟨S_, .f32⟩
  | 107 => ⟨S16384x4, .f32⟩
  | 108 => ⟨S16384x4, .f32⟩
  | 109 => ⟨S_, .f32⟩
  | 110 => ⟨S16384x4, .f32⟩
  | 111 => ⟨S16384x4, .i1⟩
  | 112 => ⟨S_, .f32⟩
  | 113 => ⟨S_, .f32⟩
  | 114 => ⟨S16384x4, .f32⟩
  | 115 => ⟨S16384x4, .f32⟩
  | 116 => ⟨S_, .i32⟩
  | 117 => ⟨S507904, .i32⟩
  | 118 => ⟨S507904, .i1⟩
  | 119 => ⟨S_, .i32⟩
  | 120 => ⟨S507904, .i32⟩
  | 121 => ⟨S507904, .i32⟩
  | 122 => ⟨S507904, .i32⟩
  | 123 => ⟨S507904x1, .i32⟩
  | 124 => ⟨S507904x4, .f32⟩
  | 125 => ⟨S507904x4, .f32⟩
  | 126 => ⟨S507904x4, .f32⟩
  | 127 => ⟨S_, .f32⟩
  | _ => ⟨S512x120, .f32⟩

abbrev hbmTy0_1 (i : Nat) : BufTy := match i % 128 with
  | 0 => ⟨S16384x4, .f32⟩
  | 1 => ⟨S507904x1, .i32⟩
  | 2 => ⟨S16384x4, .f32⟩
  | 3 => ⟨S_, .i32⟩
  | 4 => ⟨S507904, .i32⟩
  | 5 => ⟨S507904, .i1⟩
  | 6 => ⟨S_, .i32⟩
  | 7 => ⟨S507904, .i32⟩
  | 8 => ⟨S507904, .i32⟩
  | 9 => ⟨S507904, .i32⟩
  | 10 => ⟨S507904x1, .i32⟩
  | 11 => ⟨S507904x4, .f32⟩
  | 12 => ⟨S507904x4, .f32⟩
  | 13 => ⟨S_, .i32⟩
  | 14 => ⟨S507904, .i32⟩
  | 15 => ⟨S507904, .i1⟩
  | 16 => ⟨S_, .i32⟩
  | 17 => ⟨S507904, .i32⟩
  | 18 => ⟨S507904, .i32⟩
  | 19 => ⟨S507904, .i32⟩
  | 20 => ⟨S507904x1, .i32⟩
  | 21 => ⟨S507904x4x32, .f32⟩
  | 22 => ⟨S507904x4x1, .f32⟩
  | 23 => ⟨S507904x4x32, .f32⟩
  | 24 => ⟨S507904x4x32, .f32⟩
  | 25 => ⟨S_, .f32⟩
  | 26 => ⟨S16384x4x32, .f32⟩
  | 27 => ⟨S507904x1, .i32⟩
  | 28 => ⟨S16384x4x32, .f32⟩
  | 29 => ⟨S16384x128, .f32⟩
  | 30 => ⟨S1x128, .f32⟩
  | 31 => ⟨S16384x128, .f32⟩
  | 32 => ⟨S16384x128, .f32⟩
  | 33 => ⟨S_, .f32⟩
  | 34 => ⟨S16384x128, .f32⟩
  | 35 => ⟨S16384x128, .f32⟩
  | 36 => ⟨S128x128, .f32⟩
  | 37 => ⟨S16384x128, .f32⟩
  | 38 => ⟨S16384x4x32, .f32⟩
  | 39 => ⟨S1x4x32, .f32⟩
  | 40 => ⟨S16384x4x32, .f32⟩
  | 41 => ⟨S16384x4x32, .f32⟩
  | 42 => ⟨S_, .f32⟩
  | 43 => ⟨S16384x4, .f32⟩
  | 44 => ⟨S1x4x32, .f32⟩
  | 45 => ⟨S16384x4x32, .f32⟩
  | 46 => ⟨S16384x4x32, .f32⟩
  | 47 => ⟨S_, .f32⟩
  | 48 => ⟨S16384x4, .f32⟩
  | 49 => ⟨S_, .i32⟩
  | 50 => ⟨S507904, .i32⟩
  | 51 => ⟨S507904, .i1⟩
  | 52 => ⟨S_, .i32⟩
  | 53 => ⟨S507904, .i32⟩
  | 54 => ⟨S507904, .i32⟩
  | 55 => ⟨S507904, .i32⟩
  | 56 => ⟨S507904x1, .i32⟩
  | 57 => ⟨S507904x4, .f32⟩
  | 58 => ⟨S_, .i32⟩
  | 59 => ⟨S507904, .i32⟩
  | 60 => ⟨S507904, .i1⟩
  | 61 => ⟨S_, .i32⟩
  | 62 => ⟨S507904, .i32⟩
  | 63 => ⟨S507904, .i32⟩
  | 64 => ⟨S507904, .i32⟩
  | 65 => ⟨S507904x1, .i32⟩
  | 66 => ⟨S507904x4, .f32⟩
  | 67 => ⟨S507904x4, .f32⟩
  | 68 => ⟨S_, .f32⟩
  | 69 => ⟨S_, .f32⟩
  | 70 => ⟨S507904x4, .f32⟩
  | 71 => ⟨S507904x4, .i1⟩
  | 72 => ⟨S_, .f32⟩
  | 73 => ⟨S507904x4, .f32⟩
  | 74 => ⟨S507904x4, .f32⟩
  | 75 => ⟨S507904x4, .f32⟩
  | 76 => ⟨S1x507904, .i32⟩
  | 77 => ⟨S16384, .i32⟩
  | 78 => ⟨S16384x1, .i32⟩
  | 79 => ⟨S16384x507904, .i32⟩
  | 80 => ⟨S16384x507904, .i32⟩
  | 81 => ⟨S16384x507904, .i1⟩
  | 82 => ⟨S16384x507904x1, .i1⟩
  | 83 => ⟨S1x507904x4, .f32⟩
  | 84 => ⟨S_, .f32⟩
  | 85 => ⟨S_, .f32⟩
  | 86 => ⟨S16384x507904x4, .i1⟩
  | 87 => ⟨S16384x507904x4, .f32⟩
  | 88 => ⟨S16384x507904x4, .f32⟩
  | 89 => ⟨S16384x507904x4, .f32⟩
  | 90 => ⟨S_, .f32⟩
  | 91 => ⟨S16384x4, .f32⟩
  | 92 => ⟨S16384x4, .f32⟩
  | 93 => ⟨S_, .f32⟩
  | 94 => ⟨S16384x4, .f32⟩
  | 95 => ⟨S16384x4, .i1⟩
  | 96 => ⟨S_, .f32⟩
  | 97 => ⟨S_, .f32⟩
  | 98 => ⟨S16384x4, .f32⟩
  | 99 => ⟨S16384x4, .f32⟩
  | 100 => ⟨S_, .i32⟩
  | 101 => ⟨S507904, .i32⟩
  | 102 => ⟨S507904, .i1⟩
  | 103 => ⟨S_, .i32⟩
  | 104 => ⟨S507904, .i32⟩
  | 105 => ⟨S507904, .i32⟩
  | 106 => ⟨S507904, .i32⟩
  | 107 => ⟨S507904x1, .i32⟩
  | 108 => ⟨S507904x4, .f32⟩
  | 109 => ⟨S507904x4, .f32⟩
  | 110 => ⟨S507904x4, .f32⟩
  | 111 => ⟨S_, .f32⟩
  | 112 => ⟨S16384x4, .f32⟩
  | 113 => ⟨S507904x1, .i32⟩
  | 114 => ⟨S16384x4, .f32⟩
  | 115 => ⟨S_, .i32⟩
  | 116 => ⟨S507904, .i32⟩
  | 117 => ⟨S507904, .i1⟩
  | 118 => ⟨S_, .i32⟩
  | 119 => ⟨S507904, .i32⟩
  | 120 => ⟨S507904, .i32⟩
  | 121 => ⟨S507904, .i32⟩
  | 122 => ⟨S507904x1, .i32⟩
  | 123 => ⟨S507904x4, .f32⟩
  | 124 => ⟨S507904x4, .f32⟩
  | 125 => ⟨S_, .i32⟩
  | 126 => ⟨S507904, .i32⟩
  | 127 => ⟨S507904, .i1⟩
  | _ => ⟨S512x120, .f32⟩

abbrev hbmTy0_2 (i : Nat) : BufTy := match i % 128 with
  | 0 => ⟨S_, .i32⟩
  | 1 => ⟨S507904, .i32⟩
  | 2 => ⟨S507904, .i32⟩
  | 3 => ⟨S507904, .i32⟩
  | 4 => ⟨S507904x1, .i32⟩
  | 5 => ⟨S507904x4x32, .f32⟩
  | 6 => ⟨S507904x4x1, .f32⟩
  | 7 => ⟨S507904x4x32, .f32⟩
  | 8 => ⟨S507904x4x32, .f32⟩
  | 9 => ⟨S_, .f32⟩
  | 10 => ⟨S16384x4x32, .f32⟩
  | 11 => ⟨S507904x1, .i32⟩
  | 12 => ⟨S16384x4x32, .f32⟩
  | 13 => ⟨S16384x128, .f32⟩
  | 14 => ⟨S1x128, .f32⟩
  | 15 => ⟨S16384x128, .f32⟩
  | 16 => ⟨S16384x128, .f32⟩
  | 17 => ⟨S_, .f32⟩
  | 18 => ⟨S16384x128, .f32⟩
  | 19 => ⟨S16384x128, .f32⟩
  | 20 => ⟨S512, .i32⟩
  | 21 => ⟨S_, .i32⟩
  | 22 => ⟨S512, .i32⟩
  | 23 => ⟨S512, .i32⟩
  | 24 => ⟨S_, .i32⟩
  | 25 => ⟨S512, .i32⟩
  | 26 => ⟨S512, .i32⟩
  | 27 => ⟨S_, .i32⟩
  | 28 => ⟨S512, .i32⟩
  | 29 => ⟨S512, .i1⟩
  | 30 => ⟨S_, .i32⟩
  | 31 => ⟨S512, .i32⟩
  | 32 => ⟨S512, .i32⟩
  | 33 => ⟨S512, .i32⟩
  | 34 => ⟨S512x1, .i32⟩
  | 35 => ⟨S512x128, .f32⟩
  | 36 => ⟨S512x1x128, .f32⟩
  | 37 => ⟨S128x384, .f32⟩
  | 38 => ⟨S512x1x384, .f32⟩
  | 39 => ⟨S1x1x384, .f32⟩
  | 40 => ⟨S512x1x384, .f32⟩
  | 41 => ⟨S512x1x384, .f32⟩
  | 42 => ⟨S512x1x128, .f32⟩
  | 43 => ⟨S512x1x128, .f32⟩
  | 44 => ⟨S512x1x128, .f32⟩
  | 45 => ⟨S512x1x4x32, .f32⟩
  | 46 => ⟨S512x4x1x32, .f32⟩
  | 47 => ⟨S512x1x4x32, .f32⟩
  | 48 => ⟨S512x4x1x32, .f32⟩
  | 49 => ⟨S512x1x4x32, .f32⟩
  | 50 => ⟨S512x4x1x32, .f32⟩
  | 51 => ⟨S512x4x32x1, .f32⟩
  | 52 => ⟨S512x4x1x1, .f32⟩
  | 53 => ⟨S_, .f32⟩
  | 54 => ⟨S_, .f32⟩
  | 55 => ⟨S_, .f32⟩
  | 56 => ⟨S512x4x1x1, .f32⟩
  | 57 => ⟨S512x4x1x1, .f32⟩
  | 58 => ⟨S_, .i1⟩
  | 59 => ⟨S1x1, .i1⟩
  | 60 => ⟨S1x1, .i32⟩
  | 61 => ⟨S_, .i32⟩
  | 62 => ⟨S1x1, .i32⟩
  | 63 => ⟨S1x1, .i32⟩
  | 64 => ⟨S1x1, .i32⟩
  | 65 => ⟨S1x1, .i1⟩
  | 66 => ⟨S_, .i1⟩
  | 67 => ⟨S1x1, .i1⟩
  | 68 => ⟨S1x1, .i1⟩
  | 69 => ⟨S1x1x1x1, .i1⟩
  | 70 => ⟨S_, .f32⟩
  | 71 => ⟨S_, .f32⟩
  | 72 => ⟨S512x4x1x1, .i1⟩
  | 73 => ⟨S512x4x1x1, .f32⟩
  | 74 => ⟨S512x4x1x1, .f32⟩
  | 75 => ⟨S_, .f32⟩
  | 76 => ⟨S512x4x1, .f32⟩
  | 77 => ⟨S_, .f32⟩
  | 78 => ⟨S512x4x1, .f32⟩
  | 79 => ⟨S512x4x1, .f32⟩
  | 80 => ⟨S512x4x1x1, .f32⟩
  | 81 => ⟨S512x4x1x1, .f32⟩
  | 82 => ⟨S512x4x1x1, .f32⟩
  | 83 => ⟨S_, .f32⟩
  | 84 => ⟨S512x4x1, .f32⟩
  | 85 => ⟨S512x4x1x1, .f32⟩
  | 86 => ⟨S512x4x1x1, .f32⟩
  | 87 => ⟨S512x4x1x32, .f32⟩
  | 88 => ⟨S512x1x4x32, .f32⟩
  | 89 => ⟨S512x1x128, .f32⟩
  | 90 => ⟨S128x128, .f32⟩
  | 91 => ⟨S512x1x128, .f32⟩
  | 92 => ⟨S1x1x128, .f32⟩
  | 93 => ⟨S512x1x128, .f32⟩
  | 94 => ⟨S512x1x128, .f32⟩
  | 95 => ⟨S512x128, .f32⟩
  | 96 => ⟨S128x64, .f32⟩
  | 97 => ⟨S512x64, .f32⟩
  | 98 => ⟨S1x64, .f32⟩
  | 99 => ⟨S512x64, .f32⟩
  | 100 => ⟨S512x64, .f32⟩
  | 101 => ⟨S64x256, .f32⟩
  | 102 => ⟨S512x256, .f32⟩
  | 103 => ⟨S1x256, .f32⟩
  | 104 => ⟨S512x256, .f32⟩
  | 105 => ⟨S512x256, .f32⟩
  | _ => ⟨S512x120, .f32⟩

abbrev hbmTy (i : Nat) : BufTy := match i / 128 with
  | 0 => hbmTy0_0 i
  | 1 => hbmTy0_1 i
  | 2 => hbmTy0_2 i
  | _ => ⟨S512x120, .f32⟩

abbrev bufTy : (tb : Table) → Fin (tcTables nBuf tb) → BufTy
  | .hbm, ⟨i, _⟩ => hbmTy i
  | _, _ => ⟨S512x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_7 : Ref sig .tc := ⟨.hbm, 74, rfl⟩
abbrev main_v47 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_10 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_v64 : Ref sig .tc := ⟨.hbm, 105, rfl⟩
abbrev main_cst_11 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_call2_v0 : Ref sig .tc := ⟨.hbm, 113, rfl⟩
abbrev main_call2_v1 : Ref sig .tc := ⟨.hbm, 114, rfl⟩
abbrev main_v69 : Ref sig .tc := ⟨.hbm, 115, rfl⟩
abbrev main_c_14 : Ref sig .tc := ⟨.hbm, 116, rfl⟩
abbrev main_v70 : Ref sig .tc := ⟨.hbm, 117, rfl⟩
abbrev main_v71 : Ref sig .tc := ⟨.hbm, 118, rfl⟩
abbrev main_c_15 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_16 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_17 : Ref sig .tc := ⟨.hbm, 131, rfl⟩
abbrev main_v82 : Ref sig .tc := ⟨.hbm, 132, rfl⟩
abbrev main_v83 : Ref sig .tc := ⟨.hbm, 133, rfl⟩
abbrev main_c_18 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_c_19 : Ref sig .tc := ⟨.hbm, 141, rfl⟩
abbrev main_v90 : Ref sig .tc := ⟨.hbm, 142, rfl⟩
abbrev main_v91 : Ref sig .tc := ⟨.hbm, 143, rfl⟩
abbrev main_c_20 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_21 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_call3_cst : Ref sig .tc := ⟨.hbm, 161, rfl⟩
abbrev main_call3_v0 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_22 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_23 : Ref sig .tc := ⟨.hbm, 175, rfl⟩
abbrev main_v118 : Ref sig .tc := ⟨.hbm, 176, rfl⟩
abbrev main_c_24 : Ref sig .tc := ⟨.hbm, 177, rfl⟩
abbrev main_v119 : Ref sig .tc := ⟨.hbm, 178, rfl⟩
abbrev main_v120 : Ref sig .tc := ⟨.hbm, 179, rfl⟩
abbrev main_c_25 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_c_26 : Ref sig .tc := ⟨.hbm, 186, rfl⟩
abbrev main_v126 : Ref sig .tc := ⟨.hbm, 187, rfl⟩
abbrev main_v127 : Ref sig .tc := ⟨.hbm, 188, rfl⟩
abbrev main_c_27 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_28 : Ref sig .tc := ⟨.hbm, 196, rfl⟩
abbrev main_call4_cst : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_cst_29 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_call5_v3 : Ref sig .tc := ⟨.hbm, 216, rfl⟩
abbrev main_v143 : Ref sig .tc := ⟨.hbm, 217, rfl⟩
abbrev main_cst_30 : Ref sig .tc := ⟨.hbm, 218, rfl⟩
abbrev main_v144 : Ref sig .tc := ⟨.hbm, 219, rfl⟩
abbrev main_v145 : Ref sig .tc := ⟨.hbm, 220, rfl⟩
abbrev main_cst_31 : Ref sig .tc := ⟨.hbm, 221, rfl⟩
abbrev main_v146 : Ref sig .tc := ⟨.hbm, 222, rfl⟩
abbrev main_v147 : Ref sig .tc := ⟨.hbm, 223, rfl⟩
abbrev main_cst_32 : Ref sig .tc := ⟨.hbm, 224, rfl⟩
abbrev main_call6_v0 : Ref sig .tc := ⟨.hbm, 225, rfl⟩
abbrev main_call6_v1 : Ref sig .tc := ⟨.hbm, 226, rfl⟩
abbrev main_v148 : Ref sig .tc := ⟨.hbm, 227, rfl⟩
abbrev main_c_33 : Ref sig .tc := ⟨.hbm, 228, rfl⟩
abbrev main_v149 : Ref sig .tc := ⟨.hbm, 229, rfl⟩
abbrev main_v150 : Ref sig .tc := ⟨.hbm, 230, rfl⟩
abbrev main_c_34 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_cst_35 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_c_36 : Ref sig .tc := ⟨.hbm, 243, rfl⟩
abbrev main_v161 : Ref sig .tc := ⟨.hbm, 244, rfl⟩
abbrev main_v162 : Ref sig .tc := ⟨.hbm, 245, rfl⟩
abbrev main_c_37 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_c_38 : Ref sig .tc := ⟨.hbm, 253, rfl⟩
abbrev main_v169 : Ref sig .tc := ⟨.hbm, 254, rfl⟩
abbrev main_v170 : Ref sig .tc := ⟨.hbm, 255, rfl⟩
abbrev main_c_39 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_cst_40 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_call7_cst : Ref sig .tc := ⟨.hbm, 273, rfl⟩
abbrev main_call7_v0 : Ref sig .tc := ⟨.hbm, 274, rfl⟩
abbrev main_v186 : Ref sig .tc := ⟨.hbm, 275, rfl⟩
abbrev main_v187 : Ref sig .tc := ⟨.hbm, 276, rfl⟩
abbrev main_c_41 : Ref sig .tc := ⟨.hbm, 277, rfl⟩
abbrev main_v188 : Ref sig .tc := ⟨.hbm, 278, rfl⟩
abbrev main_v189 : Ref sig .tc := ⟨.hbm, 279, rfl⟩
abbrev main_c_42 : Ref sig .tc := ⟨.hbm, 280, rfl⟩
abbrev main_v190 : Ref sig .tc := ⟨.hbm, 281, rfl⟩
abbrev main_v191 : Ref sig .tc := ⟨.hbm, 282, rfl⟩
abbrev main_c_43 : Ref sig .tc := ⟨.hbm, 283, rfl⟩
abbrev main_v192 : Ref sig .tc := ⟨.hbm, 284, rfl⟩
abbrev main_v193 : Ref sig .tc := ⟨.hbm, 285, rfl⟩
abbrev main_c_44 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_cst_45 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_c_46 : Ref sig .tc := ⟨.hbm, 314, rfl⟩
abbrev main_v220 : Ref sig .tc := ⟨.hbm, 315, rfl⟩
abbrev main_call8_v0 : Ref sig .tc := ⟨.hbm, 316, rfl⟩
abbrev main_call8_c : Ref sig .tc := ⟨.hbm, 317, rfl⟩
abbrev main_call8_v1 : Ref sig .tc := ⟨.hbm, 318, rfl⟩
abbrev main_call8_v2 : Ref sig .tc := ⟨.hbm, 319, rfl⟩
abbrev main_call8_v3 : Ref sig .tc := ⟨.hbm, 320, rfl⟩
abbrev main_call8_v4 : Ref sig .tc := ⟨.hbm, 321, rfl⟩
abbrev main_call8_c_0 : Ref sig .tc := ⟨.hbm, 322, rfl⟩
abbrev main_call8_v5 : Ref sig .tc := ⟨.hbm, 323, rfl⟩
abbrev main_v221 : Ref sig .tc := ⟨.hbm, 324, rfl⟩
abbrev main_v222 : Ref sig .tc := ⟨.hbm, 325, rfl⟩
abbrev main_cst_47 : Ref sig .tc := ⟨.hbm, 326, rfl⟩
abbrev main_call9_v0 : Ref sig .tc := ⟨.hbm, 327, rfl⟩
abbrev main_call9_v1 : Ref sig .tc := ⟨.hbm, 328, rfl⟩
abbrev main_call9_v2 : Ref sig .tc := ⟨.hbm, 329, rfl⟩
abbrev main_v223 : Ref sig .tc := ⟨.hbm, 330, rfl⟩
abbrev main_cst_48 : Ref sig .tc := ⟨.hbm, 331, rfl⟩
abbrev main_v224 : Ref sig .tc := ⟨.hbm, 332, rfl⟩
abbrev main_cst_49 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_cst_50 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_v251 : Ref sig .tc := ⟨.hbm, 361, rfl⟩

abbrev nD : Nat := 1
abbrev τ : Topo := Topo.v7x

variable {F : FTy → Type} [FloatOps F]
-- ==== Proof.Math.lean ====
/- The mathematics both programs compute, over the real numbers: one graph attention layer over a complete graph of 32 agents (no agent attends to itself),
   four heads of 32 channels each, and the facts about sums over the 128 lanes that the readings of the two programs use. -/
module

public import Idealize.ShloMosaic.Lib.Pointwise
public import Mathlib.Analysis.SpecialFunctions.Exp

@[expose] public section

noncomputable section

open scoped BigOperators

namespace Cert.Gat

/-- The negative negSlope of the leaky rectifier: the exact value of the reference's `f32` literal for 0.2. -/
def negSlope : ℝ := 13421773 / 67108864

/-- The head (or block of 32 lanes) that lane `f` belongs to. -/
def head (f : Fin 128) : Fin 4 := ⟨f.val / 32, by omega⟩

/-- The position of lane `f` inside its block of 32. -/
def off (f : Fin 128) : Fin 32 := ⟨f.val % 32, by omega⟩

/-- Lane `c` of block `p`. -/
def lane (p : Fin 4) (c : Fin 32) : Fin 128 := ⟨32 * p.val + c.val, by omega⟩

@[simp] theorem head_lane (p : Fin 4) (c : Fin 32) : head (lane p c) = p := Fin.ext (by simp only [head, lane]; omega)
@[simp] theorem off_lane (p : Fin 4) (c : Fin 32) : off (lane p c) = c := Fin.ext (by simp only [off, lane]; omega)
@[simp] theorem lane_head_off (f : Fin 128) : lane (head f) (off f) = f := Fin.ext (by simp only [off, lane, head]; omega)

/-- The 128 lanes are the four blocks of 32. -/
def laneEquiv : Fin 4 × Fin 32 ≃ Fin 128 where
  toFun q := lane q.1 q.2
  invFun f := (head f, off f)
  left_inv q := by simp
  right_inv f := by simp

/-- A sum over the lanes is the double sum over blocks and positions. -/
theorem sum_lane {M : Type*} [AddCommMonoid M] (F : Fin 128 → M) : ∑ f, F f = ∑ p, ∑ c, F (lane p c) := by
  rw [← laneEquiv.sum_comp F, Fintype.sum_prod_type]; rfl

/-- A sum over the lanes of which only block `p` counts is the sum over that block. -/
theorem sum_head {M : Type*} [AddCommMonoid M] (F : Fin 128 → M) (p : Fin 4) :
    (∑ f, if head f = p then F f else 0) = ∑ c, F (lane p c) := by
  rw [sum_lane, Finset.sum_eq_single p]
  · simp
  · intro b _ hb; simp [hb]
  · intro h; exact absurd (Finset.mem_univ p) h

/-- One linear map: row `a` of `x` times the transposed weight matrix. -/
def lin (x : Fin 32 → Fin 128 → ℝ) (W : Fin 128 → Fin 128 → ℝ) (a : Fin 32) (f : Fin 128) : ℝ := ∑ k, x a k * W f k

/-- The attention score of agent `a` at head `p`: its features of that head against the attention vector. -/
def score (h : Fin 32 → Fin 128 → ℝ) (att : Fin 128 → ℝ) (a : Fin 32) (p : Fin 4) : ℝ := ∑ c, h a (lane p c) * att (lane p c)

/-- The leaky rectifier. -/
def leaky (t : ℝ) : ℝ := max t (negSlope * t)

/-- The logit of the edge from agent `i` to agent `j` at head `p`. -/
def logit (h : Fin 32 → Fin 128 → ℝ) (sa da : Fin 128 → ℝ) (i j : Fin 32) (p : Fin 4) : ℝ :=
  leaky (score h sa i p + score h da j p)

/-- The unnormalised weight of the edge from `i` to `j`: zero on the diagonal, for an agent does not attend to itself. -/
def wt (h : Fin 32 → Fin 128 → ℝ) (sa da : Fin 128 → ℝ) (i j : Fin 32) (p : Fin 4) : ℝ :=
  if j = i then 0 else Real.exp (logit h sa da i j p)

/-- The total weight of the edges into `j`. -/
def den (h : Fin 32 → Fin 128 → ℝ) (sa da : Fin 128 → ℝ) (j : Fin 32) (p : Fin 4) : ℝ := ∑ i, wt h sa da i j p

/-- The weighted sum of the features of the agents that `j` attends to. -/
def num (h : Fin 32 → Fin 128 → ℝ) (sa da : Fin 128 → ℝ) (j : Fin 32) (f : Fin 128) : ℝ := ∑ i, wt h sa da i j (head f) * h i f

/-- The layer on features `h` already mapped: weighted average, bias, rectifier. -/
def gat (h : Fin 32 → Fin 128 → ℝ) (sa da b : Fin 128 → ℝ) (j : Fin 32) (f : Fin 128) : ℝ :=
  max (num h sa da j f * (1 / den h sa da j (head f)) + b f) 0

/-- The features of agent `a` of one graph: agent 0 has the 120 signals, every agent its own eight actions. -/
def node (sig : Fin 120 → ℝ) (act : Fin 256 → ℝ) (a : Fin 32) (k : Fin 128) : ℝ :=
  if h : k.val < 120 then (if a = 0 then sig ⟨k.val, h⟩ else 0) else act ⟨8 * a.val + (k.val - 120), by omega⟩

/-- Both layers, read at agent 0 of one graph. -/
def ego (sig : Fin 120 → ℝ) (act : Fin 256 → ℝ) (W1 : Fin 128 → Fin 128 → ℝ) (u1 v1 b1 : Fin 128 → ℝ)
    (W2 : Fin 128 → Fin 128 → ℝ) (u2 v2 b2 : Fin 128 → ℝ) (f : Fin 128) : ℝ :=
  gat (lin (gat (lin (node sig act) W1) u1 v1 b1) W2) u2 v2 b2 0 f

/-- One affine map on possibly infinite entries. -/
def affine {n m : Nat} (x : Fin n → EReal) (W : Fin m → Fin n → EReal) (b : Fin m → EReal) (i : Fin m) : EReal := (∑ k, x k * W i k) + b i

/-- The linear layers after the attention layers: value projection, output projection, and two dense layers. -/
def tail (x : Fin 128 → EReal) (VW : Fin 128 → Fin 128 → EReal) (VB : Fin 128 → EReal) (OW : Fin 128 → Fin 128 → EReal) (OB : Fin 128 → EReal)
    (LW : Fin 64 → Fin 128 → EReal) (LB : Fin 64 → EReal) (AW : Fin 256 → Fin 64 → EReal) (AB : Fin 256 → EReal) : Fin 256 → EReal :=
  affine (affine (affine (affine x VW VB) OW OB) LW LB) AW AB

theorem wt_nonneg (h : Fin 32 → Fin 128 → ℝ) (sa da : Fin 128 → ℝ) (i j : Fin 32) (p : Fin 4) : 0 ≤ wt h sa da i j p := by
  unfold wt; split
  · exact le_rfl
  · exact (Real.exp_pos _).le

/-- Every agent attends to another one, so the total weight is positive. -/
theorem den_pos (h : Fin 32 → Fin 128 → ℝ) (sa da : Fin 128 → ℝ) (j : Fin 32) (p : Fin 4) : 0 < den h sa da j p := by
  obtain ⟨i, hi⟩ : ∃ i : Fin 32, j ≠ i := by
    by_cases h0 : j = 0
    · exact ⟨1, by rw [h0]; decide⟩
    · exact ⟨0, h0⟩
  refine Finset.sum_pos' (fun i _ => wt_nonneg h sa da i j p) ⟨i, Finset.mem_univ _, ?_⟩
  unfold wt; rw [if_neg hi]; exact Real.exp_pos _

/-- The leaky rectifier as the choice by sign. -/
theorem leaky_eq (t : ℝ) : leaky t = if 0 ≤ t then t else negSlope * t := by
  unfold leaky negSlope
  split
  · exact max_eq_left (by nlinarith)
  · exact max_eq_right (by nlinarith)

/-- The shifted weights into an agent add up to the total weight, scaled. -/
theorem shifted_den (h : Fin 32 → Fin 128 → ℝ) (sa da : Fin 128 → ℝ) (j : Fin 32) (p : Fin 4) (M : ℝ) :
    (∑ i', if j = i' then (0 : ℝ) else Real.exp (logit h sa da i' j p - M)) = den h sa da j p * Real.exp (-M) := by
  unfold den wt
  rw [Finset.sum_mul]
  refine Finset.sum_congr rfl fun i _ => ?_
  split
  · simp
  · rw [sub_eq_add_neg, Real.exp_add]

/-- The shifted weights into an agent have a positive sum. -/
theorem shifted_pos (h : Fin 32 → Fin 128 → ℝ) (sa da : Fin 128 → ℝ) (j : Fin 32) (p : Fin 4) (M : ℝ) :
    0 < ∑ i', if j = i' then (0 : ℝ) else Real.exp (logit h sa da i' j p - M) := by
  rw [shifted_den]
  exact mul_pos (den_pos h sa da j p) (Real.exp_pos _)

/-- **Shift invariance.** Dividing each shifted exponential by their sum and averaging is averaging with the unshifted weights. -/
theorem shifted (h : Fin 32 → Fin 128 → ℝ) (sa da : Fin 128 → ℝ) (j : Fin 32) (f : Fin 128) (M : ℝ) :
    (∑ i, if j = i then 0 else h i f * (Real.exp (logit h sa da i j (head f) - M)
        * (1 / ∑ i', if j = i' then 0 else Real.exp (logit h sa da i' j (head f) - M))))
      = num h sa da j f * (1 / den h sa da j (head f)) := by
  rw [shifted_den]
  unfold num
  rw [Finset.sum_mul]
  refine Finset.sum_congr rfl fun i _ => ?_
  have h1 := (den_pos h sa da j (head f)).ne'
  have h2 := (Real.exp_pos (-M)).ne'
  unfold wt
  split
  · simp
  · rw [sub_eq_add_neg, Real.exp_add]; field_simp

/-- The coercion of a finite sum of reals is the sum of the coercions. -/
theorem coe_sum {ι : Type*} (s : Finset ι) (F : ι → ℝ) : ((∑ i ∈ s, F i : ℝ) : EReal) = ∑ i ∈ s, (F i : EReal) := by
  classical
  induction s using Finset.induction_on with
  | empty => simp
  | insert a s ha ih => rw [Finset.sum_insert ha, Finset.sum_insert ha, EReal.coe_add, ih]

/-- A sum whose terms are all real is the real sum. -/
theorem sum_coe {ι : Type*} (s : Finset ι) (G : ι → EReal) (F : ι → ℝ) (h : ∀ i ∈ s, G i = (F i : EReal)) :
    ∑ i ∈ s, G i = ((∑ i ∈ s, F i : ℝ) : EReal) := by
  rw [coe_sum]; exact Finset.sum_congr rfl h

/-- The greater of two reals, coerced. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A sum of products of which only the factor at `i` is one and the others are zero. -/
theorem sum_pick (F : Fin 32 → ℝ) (i : Fin 32) : (∑ a, F a * (if a = i then 1 else 0)) = F i := by simp

/-- The score read through the block mask. -/
theorem score_mask (h : Fin 32 → Fin 128 → ℝ) (att : Fin 128 → ℝ) (a : Fin 32) (f : Fin 128) :
    (∑ k, h a k * (att k * (if head k = head f then 1 else 0))) = score h att a (head f) := by
  rw [score, ← sum_head (fun k => h a k * att k) (head f)]
  refine Finset.sum_congr rfl fun k _ => ?_
  split <;> simp

/-- The total weight read through the block mask. -/
theorem den_mask (h : Fin 32 → Fin 128 → ℝ) (sa da : Fin 128 → ℝ) (j : Fin 32) (f : Fin 128) :
    (∑ l, wt h sa da (off l) j (head l) * (if head l = head f then 1 else 0)) = den h sa da j (head f) := by
  rw [den]
  have := sum_head (fun l => wt h sa da (off l) j (head l)) (head f)
  simp only [head_lane, off_lane] at this
  rw [← this]
  refine Finset.sum_congr rfl fun l _ => ?_
  split <;> simp

/-- The weighted sum read through the block mask. -/
theorem num_mask (h : Fin 32 → Fin 128 → ℝ) (sa da : Fin 128 → ℝ) (j : Fin 32) (f : Fin 128) :
    (∑ l, wt h sa da (off l) j (head l) * (if head l = head f then h (off l) f else 0)) = num h sa da j f := by
  rw [num]
  have := sum_head (fun l => wt h sa da (off l) j (head l) * h (off l) f) (head f)
  simp only [head_lane, off_lane] at this
  rw [← this]
  refine Finset.sum_congr rfl fun l _ => ?_
  split <;> simp

/-- The first linear map by its two parts: the actions against the last eight columns, and for agent 0 the signals against the first 120. -/
theorem lin_node (sig : Fin 120 → ℝ) (act : Fin 256 → ℝ) (W : Fin 128 → Fin 128 → ℝ) (a : Fin 32) (f : Fin 128) :
    lin (node sig act) W a f = (∑ c : Fin 8, act ⟨8 * a.val + c.val, by omega⟩ * W f ⟨120 + c.val, by omega⟩)
      + (if a = 0 then ∑ k : Fin 120, sig k * W f ⟨k.val, by omega⟩ else 0) := by
  rw [lin, add_comm]
  refine (Fin.sum_univ_add (a := 120) (b := 8) (fun k : Fin (120 + 8) => node sig act a k * W f k)).trans (congrArg₂ (· + ·) ?_ ?_)
  · by_cases h : a = 0
    · rw [if_pos h]
      refine Finset.sum_congr rfl fun k _ => ?_
      have hk : (Fin.castAdd 8 k).val < 120 := k.isLt
      rw [node, dif_pos hk, if_pos h]; rfl
    · rw [if_neg h]
      refine Finset.sum_eq_zero fun k _ => ?_
      have hk : (Fin.castAdd 8 k).val < 120 := k.isLt
      rw [node, dif_pos hk, if_neg h, zero_mul]
  · refine Finset.sum_congr rfl fun k _ => ?_
    have hk : ¬ (Fin.natAdd 120 k).val < 120 := by simp
    rw [node, dif_neg hk]
    refine congrArg₂ (· * ·) (congrArg act (Fin.ext ?_)) rfl
    simp

end Cert.Gat

end
-- ==== Proof.Attn.lean ====
/- What the attention part of a kernel block computes, read at an index: the block mask, the logits, the unnormalised weights, their reciprocal totals and the weighted sums,
   each as the real number `Cert.Gat` names. The first layer's values; the second layer's are the same definitions (`LayerTwo`). -/
module

public import proofs.«01_k».proof.Proof.Math
public import proofs.«01_k».proof.Proof.Gen.KernelIdeal.Skeleton
public import Idealize.ShloMosaic.Lib.WordCmp

@[expose] public section

set_option maxRecDepth 16384

noncomputable section

open scoped BigOperators

namespace Cert.KernelIdeal.Block

open Idealize.ShloMosaic Cert.KernelIdeal Cert.KernelIdeal.Gen Cert.Gat

/-! ## The words -/

/-- The kernel's floor division of a lane number by 32 is the block number. -/
theorem word_div : ∀ x : Fin 128,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 32#32 0#32)) (Scalar.extui (Scalar.cmpi CmpIPredicate.slt 32#32 0#32))))
        (IntOp.cmpi CmpIPredicate.ne (IntOp.remsi ArithUnit.vector (BitVec.ofNat 32 x.val) 32#32) 0#32))
      (IntOp.subi (IntOp.divsi ArithUnit.vector (BitVec.ofNat 32 x.val) 32#32) 1#32)
      (IntOp.divsi ArithUnit.vector (BitVec.ofNat 32 x.val) 32#32) = BitVec.ofNat 32 (head x).val := by
  decide +kernel

/-- The kernel's floor remainder of a lane number by 32 is the position in its block. -/
theorem word_mod : ∀ x : Fin 128,
    Scalar.select
      (IntOp.andi
        (IntOp.xori
          (IntOp.cmpi CmpIPredicate.slt
            (IntOp.remsi ArithUnit.vector (BitVec.ofNat 32 x.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 x.val) (Scalar.select (Scalar.cmpi CmpIPredicate.eq 32#32 0#32) 1#32 32#32)) 0#32))
      (IntOp.addi
        (IntOp.remsi ArithUnit.vector (BitVec.ofNat 32 x.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 x.val) (Scalar.select (Scalar.cmpi CmpIPredicate.eq 32#32 0#32) 1#32 32#32))
        = BitVec.ofNat 32 (off x).val := by
  decide +kernel

/-- Choosing by equality of two small words is choosing by equality of the numbers. -/
theorem select_word {α : Type} {n : Nat} (hn : n ≤ 128) (a b : Fin n) (x y : α) :
    Scalar.select (IntOp.cmpi .eq (BitVec.ofNat 32 a.val) (BitVec.ofNat 32 b.val)) x y = if a = b then x else y := by
  have ha : a.val < 2 ^ 32 := by omega
  have hb : b.val < 2 ^ 32 := by omega
  rw [WordCmp.cmpi_eq_ofNat ha hb, WordCmp.select_decide]
  simp only [Fin.ext_iff]

/-- The bit of an equality, widened and converted, is one or zero. -/
theorem bit_real (p : Prop) [Decidable p] (φ : FTy) :
    (FloatOps.sitofp (F := Ideal) φ (BitVec.setWidth 32 (BitVec.ofBool (decide p))) : EReal) = (((if p then 1 else 0 : ℝ)) : EReal) := by
  by_cases h : p
  · simp only [h, decide_true, if_true]; show (((BitVec.setWidth 32 (BitVec.ofBool true)).toInt : ℝ) : EReal) = _; rw [show (BitVec.setWidth 32 (BitVec.ofBool true)).toInt = 1 by decide]; norm_num
  · simp only [h, decide_false, if_false]; show (((BitVec.setWidth 32 (BitVec.ofBool false)).toInt : ℝ) : EReal) = _; rw [show (BitVec.setWidth 32 (BitVec.ofBool false)).toInt = 0 by decide]; norm_num

/-- The same for the equality of two small words. -/
theorem word_bit {n : Nat} (hn : n ≤ 128) (a b : Fin n) (φ : FTy) :
    (FloatOps.sitofp (F := Ideal) φ (BitVec.setWidth 32 (IntOp.cmpi .eq (BitVec.ofNat 32 a.val) (BitVec.ofNat 32 b.val))) : EReal)
      = (((if a = b then 1 else 0 : ℝ)) : EReal) := by
  have ha : a.val < 2 ^ 32 := by omega
  have hb : b.val < 2 ^ 32 := by omega
  rw [WordCmp.cmpi_eq_ofNat ha hb, bit_real]
  simp only [Fin.ext_iff]

/-- The named slope is the reference's literal. -/
theorem slope_named : (Named.named (F := Ideal) κ "slope" (φ := .bf16) 0x3E4D#16 : EReal) = (negSlope : EReal) := by
  unfold negSlope
  exact IdealRules.named_const.ideal_named_scalar _ _ _ _ rfl

/-! ## The block mask -/

/-- The mask of a pair of lanes in the same block. -/
abbrev sameBlock : IVec S128x128 1 := k0_pay42 (iota .tc S128x128 32 [0] iota_S128x128_d0_w32) 32#32 k0_pay41 0#32

/-- The block mask at a pair of lanes: one where both lie in the same block of 32, zero elsewhere. -/
theorem mask_apply (k f : Fin 128) :
    k0_pay43 (F := Ideal) sameBlock (ix2 k f) = (((if head k = head f then 1 else 0 : ℝ)) : EReal) := by
  pointwise [k0_pay43, sameBlock, k0_pay42, k0_pay41]
  rw [word_div, word_div, word_bit (by decide)]

/-! ## Logits, weights, totals, weighted sums -/

variable (h : Fin 256 → Fin 32 → Fin 128 → ℝ) (u v : Fin 128 → ℝ)

/-- The linear score through the block mask, as a real number. -/
theorem score_coe (att : Fin 128 → ℝ) (b : Fin 256) (j : Fin 32) (f : Fin 128) :
    (∑ k, (h b j k : EReal) * ((att k : EReal) * (((if head k = head f then 1 else 0 : ℝ)) : EReal))) = ((score (h b) att j (head f) : ℝ) : EReal) := by
  rw [← score_mask]
  exact sum_coe _ _ _ fun k _ => by rw [← EReal.coe_mul, ← EReal.coe_mul]

/-- The logits: at graph `b`, receiving agent `j` and lane `f`, the logit of the edge from agent `off f` at head `head f`. -/
theorem logits_apply (asv adv : FVec Ideal S128x1 .f32) (hf : FVec Ideal S8192x128 .bf16)
    (hu : ∀ k, asv (ix2 k 0) = (u k : EReal)) (hv : ∀ k, adv (ix2 k 0) = (v k : EReal))
    (hh : ∀ (b : Fin 256) (a : Fin 32) (k : Fin 128) (hlt : b.val * 32 + a.val < 8192), hf (ix2 ⟨b.val * 32 + a.val, hlt⟩ k) = (h b a k : EReal))
    (b : Fin 256) (j : Fin 32) (f : Fin 128) :
    k0_pay45 (F := Ideal) asv adv hf sameBlock (ix3 b j f) = ((logit (h b) u v (off f) j (head f) : ℝ) : EReal) := by
  pointwise [k0_pay45]
  simp only [word_mod, word_bit (show 32 ≤ 128 by decide), mask_apply, hu, hv, hh, score_coe, slope_named]
  rw [sum_coe _ _ (fun a => score (h b) u a (head f) * (if a = off f then 1 else 0)) fun a _ => by rw [← EReal.coe_mul], sum_pick,
    ← EReal.coe_add, ← EReal.coe_mul, ← coe_max]
  rfl

/-- The unnormalised weights: at the same place, the weight of that edge. -/
theorem weights_apply (L : FVec Ideal S256x32x128 .bf16)
    (hL : ∀ b j f, L (ix3 b j f) = ((logit (h b) u v (off f) j (head f) : ℝ) : EReal)) (b : Fin 256) (j : Fin 32) (f : Fin 128) :
    k0_pay46 (F := Ideal) L (iota .tc S256x32x128 32 [1] iota_S256x32x128_d1_w32) (ix3 b j f) = ((wt (h b) u v (off f) j (head f) : ℝ) : EReal) := by
  pointwise [k0_pay46]
  rw [word_mod, select_word (by decide), hL, Ideal.exp_coe, wt]
  split
  · rfl
  · rfl

/-- The reciprocal of the total weight. -/
theorem rden_apply (L : FVec Ideal S256x32x128 .bf16)
    (hL : ∀ b j f, L (ix3 b j f) = ((logit (h b) u v (off f) j (head f) : ℝ) : EReal)) (b : Fin 256) (j : Fin 32) (f : Fin 128) :
    k0_pay47 (F := Ideal) (k0_pay44 (F := Ideal) sameBlock) L (iota .tc S256x32x128 32 [1] iota_S256x32x128_d1_w32) (ix3 b j f)
      = ((1 / den (h b) u v j (head f) : ℝ) : EReal) := by
  pointwise [k0_pay47, k0_pay44]
  simp only [weights_apply h u v L hL, mask_apply]
  rw [sum_coe _ _ (fun l => wt (h b) u v (off l) j (head l) * (if head l = head f then 1 else 0)) fun l _ => by rw [← EReal.coe_mul], den_mask,
    Ideal.div_coe (den_pos _ _ _ _ _).ne', one_mul]

/-- The weighted sums. -/
theorem sums_apply (E H : FVec Ideal S256x32x128 .bf16) (hE : ∀ b j f, E (ix3 b j f) = ((wt (h b) u v (off f) j (head f) : ℝ) : EReal))
    (hH : ∀ b a f, H (ix3 b a f) = (h b a f : EReal)) (b : Fin 256) (j : Fin 32) (f : Fin 128) :
    k0_pay71 (F := Ideal) E (k0_pay67 H) (iota .tc S256x128x128 32 [1] iota_S256x128x128_d1_w32) 32#32 k0_pay68 k0_pay69 k0_pay70 (ix3 b j f)
      = ((num (h b) u v j f : ℝ) : EReal) := by
  pointwise [k0_pay71, k0_pay67, k0_pay68, k0_pay69, k0_pay70]
  rw [← num_mask]
  refine sum_coe _ _ _ fun l _ => ?_
  have hl : (if h : l.val < 32 then H (ix3 b ⟨l.val, h⟩ f)
          else if h : l.val - 32 < 32 then H (ix3 b ⟨l.val - 32, h⟩ f)
            else if h : l.val - 32 - 32 < 32 then H (ix3 b ⟨l.val - 32 - 32, h⟩ f)
              else H (ix3 b ⟨l.val - 32 - 32 - 32, by omega⟩ f)) = H (ix3 b (off l) f) := by
    have hb := l.isLt
    split_ifs <;> refine congrArg (fun q => H (ix3 b q f)) (Fin.ext ?_) <;> simp only [off] <;> omega
  rw [word_div, word_div, select_word (by decide), hl, hE, hH]
  split
  · rw [EReal.coe_mul]
  · rw [mul_zero]; rfl

end Cert.KernelIdeal.Block

end
-- ==== Proof.Features.lean ====
/- The features that enter the first layer's attention in a kernel block: at graph `b`, agent `a` and lane `f`, the agent's eight action entries against the weight row's last eight
   columns, plus, for agent 0 alone, the 120 signal entries against the row's first 120 columns. -/
module

public import proofs.«01_k».proof.Proof.Gen.KernelIdeal.Frame
public import proofs.«01_k».proof.Proof.Attn

@[expose] public section

set_option maxRecDepth 16384

noncomputable section

open scoped BigOperators

namespace Cert.KernelIdeal.Block

open Idealize.ShloMosaic Cert.KernelIdeal Cert.KernelIdeal.Gen Cert.Gat

variable (x0 : Vec Ideal S256x120 .f32) (x1 : Vec Ideal S256x256 .f32) (x2 : Vec Ideal S888x128 .f32)

/-- The features as the kernel forms them: 32 products side by side, and the signals' product added to agent 0. -/
abbrev feats : FVec Ideal S256x32x128 .bf16 :=
  k0_pay34 (k0_pay74 x0 x1 x2) (k0_pay75 x0 x1 x2) (k0_pay76 x0 x1 x2) (k0_pay77 x0 x1 x2) (k0_pay78 x0 x1 x2) (k0_pay79 x0 x1 x2)
    (k0_pay80 x0 x1 x2) (k0_pay81 x0 x1 x2) (k0_pay82 x0 x1 x2) (k0_pay83 x0 x1 x2) (k0_pay84 x0 x1 x2) (k0_pay85 x0 x1 x2)
    (k0_pay86 x0 x1 x2) (k0_pay87 x0 x1 x2) (k0_pay88 x0 x1 x2) (k0_pay89 x0 x1 x2) (k0_pay90 x0 x1 x2) (k0_pay91 x0 x1 x2)
    (k0_pay92 x0 x1 x2) (k0_pay93 x0 x1 x2) (k0_pay94 x0 x1 x2) (k0_pay95 x0 x1 x2) (k0_pay96 x0 x1 x2) (k0_pay97 x0 x1 x2)
    (k0_pay98 x0 x1 x2) (k0_pay99 x0 x1 x2) (k0_pay100 x0 x1 x2) (k0_pay101 x0 x1 x2) (k0_pay102 x0 x1 x2) (k0_pay103 x0 x1 x2)
    (k0_pay104 x0 x1 x2) (View.ld x0 r0_2)

theorem feats_apply (b : Fin 256) (a : Fin 32) (f : Fin 128) :
    feats x0 x1 x2 (ix3 b a f) = (∑ c : Fin 8, x1 (ix2 b ⟨8 * a.val + c.val, by omega⟩) * x2 (ix2 ⟨f.val, by omega⟩ ⟨120 + c.val, by omega⟩))
      + (if a = 0 then ∑ k : Fin 120, x0 (ix2 b k) * x2 (ix2 ⟨f.val, by omega⟩ ⟨k.val, by omega⟩) else 0) := by
  unfold feats
  pointwise [k0_pay34]
  refine congrArg₂ (· + ·) ?_ ?_
  · fin_vals a with ha
    all_goals simp only [ha, Nat.reduceSub, Nat.reduceLT, ↓reduceDIte]
    all_goals pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  · refine (select_word (by decide) a 0 _ _).trans ?_
    refine if_congr Iff.rfl (Finset.sum_congr rfl fun k _ => ?_) rfl
    pointwise [k0_pay74, k0_pay2]

end Cert.KernelIdeal.Block

end
-- ==== Proof.Block.lean ====
/- What one kernel block leaves in its output buffer, at graph `b` and output column `o`: the linear tail applied to agent 0's features after both attention layers. -/
module

public import proofs.«01_k».proof.Proof.Features

@[expose] public section

set_option maxRecDepth 16384

noncomputable section

open scoped BigOperators

namespace Cert.KernelIdeal.Block

open Idealize.ShloMosaic Cert.KernelIdeal Cert.KernelIdeal.Gen Cert.Gat

/-- The packed weights hold real numbers where the attention layers read them. -/
structure Packed (x2 : Vec Ideal S888x128 .f32) (W1 : Fin 128 → Fin 128 → ℝ) (u1 v1 b1 : Fin 128 → ℝ)
    (W2 : Fin 128 → Fin 128 → ℝ) (u2 v2 b2 : Fin 128 → ℝ) : Prop where
  w1 : ∀ f k : Fin 128, x2 (ix2 ⟨f.val, by omega⟩ k) = (W1 f k : EReal)
  w2 : ∀ f k : Fin 128, x2 (ix2 ⟨128 + f.val, by omega⟩ k) = (W2 f k : EReal)
  u1 : ∀ k : Fin 128, x2 (ix2 ⟨576 + k.val, by omega⟩ 72) = (u1 k : EReal)
  v1 : ∀ k : Fin 128, x2 (ix2 ⟨576 + k.val, by omega⟩ 73) = (v1 k : EReal)
  u2 : ∀ k : Fin 128, x2 (ix2 ⟨576 + k.val, by omega⟩ 74) = (u2 k : EReal)
  v2 : ∀ k : Fin 128, x2 (ix2 ⟨576 + k.val, by omega⟩ 75) = (v2 k : EReal)
  b1 : ∀ f : Fin 128, x2 (ix2 832 f) = (b1 f : EReal)
  b2 : ∀ f : Fin 128, x2 (ix2 840 f) = (b2 f : EReal)

/-- One attention layer of a block from its parts: weighted sums times reciprocal totals, plus bias, rectified. -/
def layerOut (O R : FVec Ideal S256x32x128 .bf16) (B : FVec Ideal S1x128 .bf16) : FVec Ideal S256x32x128 .bf16 :=
  maximumf (addf (mulf O R) (broadcastTo S256x32x128 (shapeCast S1x1x128 B shapeCasts_S1x128_S1x1x128) broadcasts_S1x1x128_S256x32x128))
    (broadcast S256x32x128 (Scalar.ofBits .bf16 0x0000#16))

/-- It is the layer of `Cert.Gat`. -/
theorem layerOut_apply (h : Fin 256 → Fin 32 → Fin 128 → ℝ) (u v bias : Fin 128 → ℝ) (O R : FVec Ideal S256x32x128 .bf16) (B : FVec Ideal S1x128 .bf16)
    (hO : ∀ b j f, O (ix3 b j f) = ((num (h b) u v j f : ℝ) : EReal)) (hR : ∀ b j f, R (ix3 b j f) = ((1 / den (h b) u v j (head f) : ℝ) : EReal))
    (hB : ∀ f, B (ix2 0 f) = (bias f : EReal)) (b : Fin 256) (j : Fin 32) (f : Fin 128) :
    layerOut O R B (ix3 b j f) = ((gat (h b) u v bias j f : ℝ) : EReal) := by
  pointwise [layerOut]
  rw [hO, hR, hB, ← EReal.coe_mul, ← EReal.coe_add, gat, coe_max, EReal.coe_zero]

variable (x0 : Vec Ideal S256x120 .f32) (x1 : Vec Ideal S256x256 .f32) (x2 : Vec Ideal S888x128 .f32)
variable (sig : Fin 256 → Fin 120 → ℝ) (act : Fin 256 → Fin 256 → ℝ)
variable (W1 : Fin 128 → Fin 128 → ℝ) (u1 v1 b1 : Fin 128 → ℝ) (W2 : Fin 128 → Fin 128 → ℝ) (u2 v2 b2 : Fin 128 → ℝ)
variable (hs : ∀ b k, x0 (ix2 b k) = (sig b k : EReal)) (ha : ∀ b k, x1 (ix2 b k) = (act b k : EReal))
variable (hp : Packed x2 W1 u1 v1 b1 W2 u2 v2 b2)

include hs ha hp in
/-- The first layer's features. -/
theorem feats_coe (b : Fin 256) (a : Fin 32) (f : Fin 128) :
    feats x0 x1 x2 (ix3 b a f) = ((lin (node (sig b) (act b)) W1 a f : ℝ) : EReal) := by
  rw [feats_apply, lin_node, EReal.coe_add]
  refine congrArg₂ (· + ·) (sum_coe _ _ _ fun c _ => ?_) ?_
  · rw [ha, hp.w1, EReal.coe_mul]
  · by_cases h : a = 0
    · rw [if_pos h, if_pos h]
      exact sum_coe _ _ _ fun k _ => by rw [hs, hp.w1, EReal.coe_mul]
    · rw [if_neg h, if_neg h]; rfl

/-- The features as rows of a matrix read the same numbers. -/
theorem flat_apply (H : FVec Ideal S256x32x128 .bf16) (b : Fin 256) (a : Fin 32) (k : Fin 128) (hlt : b.val * 32 + a.val < 8192) :
    shapeCast S8192x128 H shapeCasts_S256x32x128_S8192x128 (ix2 ⟨b.val * 32 + a.val, hlt⟩ k) = H (ix3 b a k) := by
  pointwise

/-- The first layer of the block, before it is laid out as rows. -/
abbrev layerOne : FVec Ideal S256x32x128 .bf16 :=
  layerOut (k0_pay71 (F := Ideal) (k0_pay46 (k0_pay108 x0 x1 x2) (k0_pay107 x0 x1 x2)) (k0_pay67 (feats x0 x1 x2)) (iota .tc S256x128x128 32 [1] iota_S256x128x128_d1_w32) 32#32
      k0_pay68 k0_pay69 k0_pay70)
    (k0_pay47 (k0_pay44 (F := Ideal) (k0_pay106 x0 x1 x2)) (k0_pay108 x0 x1 x2) (k0_pay107 x0 x1 x2)) (k0_pay36 (View.ld x2 r0_4))

theorem layerOne_eq : k0_pay109 x0 x1 x2 = shapeCast S8192x128 (layerOne x0 x1 x2) shapeCasts_S256x32x128_S8192x128 := rfl

/-- The features of a block after the first linear map. -/
abbrev hOne (b : Fin 256) : Fin 32 → Fin 128 → ℝ := lin (node (sig b) (act b)) W1

/-- The features of a block after the first layer and the second linear map. -/
abbrev hTwo (b : Fin 256) : Fin 32 → Fin 128 → ℝ := lin (gat (hOne sig act W1 b) u1 v1 b1) W2

include hs ha hp in
/-- The first layer's logits. -/
theorem logitsOne_apply (b : Fin 256) (j : Fin 32) (f : Fin 128) :
    k0_pay108 x0 x1 x2 (ix3 b j f) = ((logit (hOne sig act W1 b) u1 v1 (off f) j (head f) : ℝ) : EReal) := by
  refine logits_apply (hOne sig act W1) u1 v1 _ _ _ (fun k => ?_) (fun k => ?_) (fun b a k hlt => ?_) b j f
  · refine Eq.trans ?_ (hp.u1 k); pointwise [k0_pay38, k0_pay35]
  · refine Eq.trans ?_ (hp.v1 k); pointwise [k0_pay39, k0_pay35]
  · exact (flat_apply (feats x0 x1 x2) b a k hlt).trans (feats_coe x0 x1 x2 sig act W1 u1 v1 b1 W2 u2 v2 b2 hs ha hp b a k)

include hs ha hp in
/-- The first layer. -/
theorem layerOne_apply (b : Fin 256) (j : Fin 32) (f : Fin 128) :
    layerOne x0 x1 x2 (ix3 b j f) = ((gat (hOne sig act W1 b) u1 v1 b1 j f : ℝ) : EReal) := by
  have hL := logitsOne_apply x0 x1 x2 sig act W1 u1 v1 b1 W2 u2 v2 b2 hs ha hp
  refine layerOut_apply (hOne sig act W1) u1 v1 b1 _ _ _ (fun b j f => ?_) (fun b j f => ?_) (fun f => ?_) b j f
  · exact sums_apply (hOne sig act W1) u1 v1 _ _ (weights_apply _ _ _ _ hL) (feats_coe x0 x1 x2 sig act W1 u1 v1 b1 W2 u2 v2 b2 hs ha hp) b j f
  · exact rden_apply _ _ _ _ hL b j f
  · refine Eq.trans ?_ (hp.b1 f); pointwise [k0_pay36]

/-- The second layer's features as the kernel forms them. -/
abbrev feats2 : FVec Ideal S256x32x128 .bf16 := k0_pay54 (k0_pay109 x0 x1 x2) (k0_pay110 x0 x1 x2)

include hs ha hp in
/-- The second layer's features. -/
theorem feats2_coe (b : Fin 256) (a : Fin 32) (f : Fin 128) :
    feats2 x0 x1 x2 (ix3 b a f) = ((hTwo sig act W1 u1 v1 b1 W2 b a f : ℝ) : EReal) := by
  unfold feats2
  rw [layerOne_eq]
  pointwise [k0_pay54, k0_pay110, k0_pay53]
  refine sum_coe _ _ _ fun k _ => ?_
  rw [EReal.coe_mul]
  refine congrArg₂ (· * ·) ((layerOne_apply x0 x1 x2 sig act W1 u1 v1 b1 W2 u2 v2 b2 hs ha hp b a k)) (hp.w2 f k)

/-- The second layer's logits as the kernel forms them. -/
abbrev logits2 : FVec Ideal S256x32x128 .bf16 :=
  k0_pay45 (k0_pay55 (k0_pay105 x0 x1 x2)) (k0_pay56 (k0_pay105 x0 x1 x2)) (k0_pay112 x0 x1 x2) sameBlock

/-- The second layer's weights are computed as the first's. -/
theorem weights2_eq : k0_pay65 (F := Ideal) (k0_pay116 x0 x1 x2) (k0_pay117 x0 x1 x2)
    = k0_pay46 (logits2 x0 x1 x2) (iota .tc S256x32x128 32 [1] iota_S256x32x128_d1_w32) := rfl

/-- The second layer's reciprocal totals are computed as the first's. -/
theorem rden2_eq : k0_pay66 (F := Ideal) (k0_pay62 (k0_pay113 x0 x1 x2) (k0_pay111 x0 x1 x2) 32#32 (k0_pay114 x0 x1 x2) (k0_pay115 x0 x1 x2)
      (Scalar.subi (Scalar.extui (Scalar.cmpi .sgt 32#32 0#32)) (Scalar.extui (Scalar.cmpi .slt 32#32 0#32)))) (k0_pay116 x0 x1 x2) (k0_pay117 x0 x1 x2)
    = k0_pay47 (k0_pay44 sameBlock) (logits2 x0 x1 x2) (iota .tc S256x32x128 32 [1] iota_S256x32x128_d1_w32) := rfl

include hs ha hp in
/-- The second layer's logits. -/
theorem logits2_apply (b : Fin 256) (j : Fin 32) (f : Fin 128) :
    logits2 x0 x1 x2 (ix3 b j f) = ((logit (hTwo sig act W1 u1 v1 b1 W2 b) u2 v2 (off f) j (head f) : ℝ) : EReal) := by
  refine logits_apply (hTwo sig act W1 u1 v1 b1 W2) u2 v2 _ _ _ (fun k => ?_) (fun k => ?_) (fun b a k hlt => ?_) b j f
  · refine Eq.trans ?_ (hp.u2 k); pointwise [k0_pay55, k0_pay105, k0_pay35]
  · refine Eq.trans ?_ (hp.v2 k); pointwise [k0_pay56, k0_pay105, k0_pay35]
  · exact (flat_apply (feats2 x0 x1 x2) b a k hlt).trans (feats2_coe x0 x1 x2 sig act W1 u1 v1 b1 W2 u2 v2 b2 hs ha hp b a k)

/-- The second layer of the block. -/
abbrev layerTwo : FVec Ideal S256x32x128 .bf16 :=
  layerOut (k0_pay71 (F := Ideal) (k0_pay46 (logits2 x0 x1 x2) (iota .tc S256x32x128 32 [1] iota_S256x32x128_d1_w32)) (k0_pay67 (feats2 x0 x1 x2))
      (iota .tc S256x128x128 32 [1] iota_S256x128x128_d1_w32) 32#32 k0_pay68 k0_pay69 k0_pay70)
    (k0_pay47 (k0_pay44 sameBlock) (logits2 x0 x1 x2) (iota .tc S256x32x128 32 [1] iota_S256x32x128_d1_w32)) (k0_pay37 (View.ld x2 r0_5))

include hs ha hp in
/-- The second layer. -/
theorem layerTwo_apply (b : Fin 256) (j : Fin 32) (f : Fin 128) :
    layerTwo x0 x1 x2 (ix3 b j f) = ((gat (hTwo sig act W1 u1 v1 b1 W2 b) u2 v2 b2 j f : ℝ) : EReal) := by
  have hL := logits2_apply x0 x1 x2 sig act W1 u1 v1 b1 W2 u2 v2 b2 hs ha hp
  refine layerOut_apply (hTwo sig act W1 u1 v1 b1 W2) u2 v2 b2 _ _ _ (fun b j f => ?_) (fun b j f => ?_) (fun f => ?_) b j f
  · exact sums_apply (hTwo sig act W1 u1 v1 b1 W2) u2 v2 _ _ (weights_apply _ _ _ _ hL) (feats2_coe x0 x1 x2 sig act W1 u1 v1 b1 W2 u2 v2 b2 hs ha hp) b j f
  · exact rden_apply _ _ _ _ hL b j f
  · refine Eq.trans ?_ (hp.b2 f); pointwise [k0_pay37]

/-- The linear tail and the last bias, at a place of the output buffer. -/
theorem tail_apply (B : FVec Ideal S1x128 .bf16) (R : FVec Ideal S256x32x128 .bf16) (O : FVec Ideal S256x32x128 .f32) (b o : Fin 256) :
    k0_pay1 (k0_pay72 B R O (View.ld x2 r0_7) (View.ld x2 r0_8) (View.ld x2 r0_9) (View.ld x2 r0_10) (View.ld x2 r0_11) (View.ld x2 r0_12)
        (View.ld x2 r0_13)) (k0_pay73 (View.ld x2 r0_14)) (View.ld x2 r0_15) (ix2 b o)
      = tail (fun f => layerOut O R B (ix3 b 0 f)) (fun f k => x2 (ix2 ⟨256 + f.val, by omega⟩ k)) (fun f => x2 (ix2 848 f))
        (fun f k => x2 (ix2 ⟨384 + f.val, by omega⟩ k)) (fun f => x2 (ix2 856 f)) (fun f k => x2 (ix2 ⟨512 + f.val, by omega⟩ k))
        (fun f => x2 (ix2 864 ⟨f.val, by omega⟩)) (fun f k => x2 (ix2 ⟨576 + f.val, by omega⟩ ⟨k.val, by omega⟩))
        (fun f => if h : f.val < 128 then x2 (ix2 872 ⟨f.val, h⟩) else x2 (ix2 873 ⟨f.val - 128, by omega⟩)) o := by
  unfold tail affine layerOut
  pointwise [k0_pay1, k0_pay72, k0_pay73]

include hs ha hp in
/-- The block's output buffer: agent 0's features after both layers, through the linear tail. -/
theorem out_apply (b o : Fin 256) :
    out0_3 x0 x1 x2 (ix2 b o) = tail (fun f => ((ego (sig b) (act b) W1 u1 v1 b1 W2 u2 v2 b2 f : ℝ) : EReal))
        (fun f k => x2 (ix2 ⟨256 + f.val, by omega⟩ k)) (fun f => x2 (ix2 848 f))
        (fun f k => x2 (ix2 ⟨384 + f.val, by omega⟩ k)) (fun f => x2 (ix2 856 f)) (fun f k => x2 (ix2 ⟨512 + f.val, by omega⟩ k))
        (fun f => x2 (ix2 864 ⟨f.val, by omega⟩)) (fun f k => x2 (ix2 ⟨576 + f.val, by omega⟩ ⟨k.val, by omega⟩))
        (fun f => if h : f.val < 128 then x2 (ix2 872 ⟨f.val, h⟩) else x2 (ix2 873 ⟨f.val - 128, by omega⟩)) o := by
  have he : (fun f => layerTwo x0 x1 x2 (ix3 b 0 f)) = fun f => ((ego (sig b) (act b) W1 u1 v1 b1 W2 u2 v2 b2 f : ℝ) : EReal) :=
    funext fun f => layerTwo_apply x0 x1 x2 sig act W1 u1 v1 b1 W2 u2 v2 b2 hs ha hp b 0 f
  rw [← he]
  refine Eq.trans ?_ (tail_apply x2 _ _ _ b o)
  rw [out0_3, weights2_eq, rden2_eq]
  exact congrFun (View.canon_unit_zero (by decide) _ _) _

end Cert.KernelIdeal.Block

end
-- ==== Proof.Pack.lean ====
/- What the packed weight array holds when the kernel is launched: each weight at the rows the kernel reads it from. -/
module

public import proofs.«01_k».proof.Proof.Block
public import Idealize.ShloMosaic.Lib.StableHlo.ReadAt
public import Idealize.ShloMosaic.Lib.KernelVsHost

@[expose] public section

set_option maxRecDepth 16384

noncomputable section

open scoped BigOperators

namespace Cert.KernelIdeal.Block

open Idealize.ShloMosaic Idealize.ShloMosaic.TcCoe Idealize.SL.Sem Cert.KernelIdeal Cert.KernelIdeal.Gen Cert.Gat

/-- A table `x` placed at row `r` and column `q` of an array that is zero elsewhere, read at `(i, j)`. -/
def slot {h w : ℕ} (r q : ℕ) (x : Fin h → Fin w → EReal) (i j : ℕ) : EReal :=
  if hin : (r ≤ i ∧ i - r < h) ∧ q ≤ j ∧ j - q < w then x ⟨i - r, hin.1.2⟩ ⟨j - q, hin.2.2⟩ else 0

theorem slot_out {h w r q : ℕ} (x : Fin h → Fin w → EReal) {i j : ℕ} (hout : ¬ ((r ≤ i ∧ i - r < h) ∧ q ≤ j ∧ j - q < w)) :
    slot r q x i j = 0 := dif_neg hout

theorem slot_in {h w r q : ℕ} (x : Fin h → Fin w → EReal) {i j : ℕ} (i' : Fin h) (j' : Fin w) (hi : i = r + i'.val) (hj : j = q + j'.val) :
    slot r q x i j = x i' j' := by
  have hI : i - r = i'.val := by omega
  have hJ : j - q = j'.val := by omega
  refine (dif_pos ⟨⟨by omega, hI ▸ i'.isLt⟩, by omega, hJ ▸ j'.isLt⟩).trans ?_
  exact congrArg₂ x (Fin.ext hI) (Fin.ext hJ)

/-- The zero that fills a padded array. -/
abbrev fill : FVec Ideal S_ .f32 := sitofp .f32 (constantI S_ 32 0#32)

/-- A zero-padded table is a `slot`. -/
theorem pad_slot {h w r q e g : ℕ} (x : (⟨2, ![h, w]⟩ : Shape).Idx → EReal) (hp : (⟨2, ![h, w]⟩ : Shape).Pads ![r, q] ![e, g] ![0, 0] S888x128)
    (hu : 0 < S_.numel) (i : Fin 888) (j : Fin 128) :
    pad S888x128 ![r, q] ![e, g] ![0, 0] x fill hp hu (ix2 i j) = slot r q (fun a b => x (ix2 a b)) i.val j.val := by
  by_cases hin : (r ≤ i.val ∧ i.val - r < h) ∧ q ≤ j.val ∧ j.val - q < w
  · refine (pad_apply_of_inside _ _ _ x fill hp hu (ix2 i j) (ix2 ⟨i.val - r, hin.1.2⟩ ⟨j.val - q, hin.2.2⟩) ?_).trans (Eq.symm ?_)
    swap
    · unfold slot
      exact dif_pos hin
    refine Fin.forall_fin_two.mpr ⟨?_, ?_⟩
    · show i.val = r + (i.val - r) * 1
      omega
    · show j.val = q + (j.val - q) * 1
      omega
  · rw [slot_out _ hin]
    have hz : fill (Shape.Idx.first hu) = 0 := by
      show (((0#32 : BitVec 32).toInt : ℝ) : EReal) = 0
      simp
    refine Eq.trans ?_ hz
    by_cases h0 : r ≤ i.val ∧ i.val - r < h
    · refine pad_apply_of_not_inside _ _ _ x fill hp hu (ix2 i j) 1 fun H => hin ⟨h0, H.1, ?_⟩
      exact (Nat.div_one _).symm.trans_lt H.2.2
    · refine pad_apply_of_not_inside _ _ _ x fill hp hu (ix2 i j) 0 fun H => h0 ⟨H.1, ?_⟩
      exact (Nat.div_one _).symm.trans_lt H.2.2

variable (a2 a6 a12 : FVec Ideal S128x128 .f32) (a3 a4 a7 a8 : FVec Ideal S4x32 .f32) (a5 a9 a13 : FVec Ideal S128 .f32)
  (a10 : FVec Ideal S384x128 .f32) (a11 : FVec Ideal S384 .f32) (a14 : FVec Ideal S64x128 .f32) (a15 : FVec Ideal S64 .f32)
  (a16 : FVec Ideal S256x64 .f32) (a17 : FVec Ideal S256 .f32)

/-- A vector as one column. -/
abbrev column (x : FVec Ideal S4x32 .f32) : FVec Ideal S128x1 .f32 :=
  broadcastInDim S128x1 ![0] bcast_S128_S128x1_0 (shapeCast S128 x shapeCasts_S4x32_S128)

/-- The four attention vectors side by side. -/
abbrev columns : FVec Ideal S128x4 .f32 :=
  concatenate S128x4 1 [⟨S128x1, column a3⟩, ⟨S128x1, column a4⟩, ⟨S128x1, column a7⟩, ⟨S128x1, column a8⟩] concatenates_S128x1_S128x1_S128x1_S128x1_S128x4_d1

/-- The packed weights as the host forms them. -/
def pack : FVec Ideal S888x128 .f32 :=
  addf (addf (addf (addf (addf (addf (addf (addf (addf (addf (addf (addf
    (pad S888x128 ![0, 0] ![760, 0] ![0, 0] a2 fill pads_S128x128_S888x128_07600_000 h_S_)
    (pad S888x128 ![128, 0] ![632, 0] ![0, 0] a6 fill pads_S128x128_S888x128_1286320_000 h_S_))
    (pad S888x128 ![256, 0] ![504, 0] ![0, 0] (extractStridedSlice S128x128 ![256, 0] a10 slices_S384x128_S128x128_256_0) fill pads_S128x128_S888x128_2565040_000 h_S_))
    (pad S888x128 ![384, 0] ![376, 0] ![0, 0] a12 fill pads_S128x128_S888x128_3843760_000 h_S_))
    (pad S888x128 ![512, 0] ![312, 0] ![0, 0] a14 fill pads_S64x128_S888x128_5123120_000 h_S_))
    (pad S888x128 ![576, 0] ![56, 64] ![0, 0] a16 fill pads_S256x64_S888x128_576560_0640 h_S_))
    (pad S888x128 ![576, 72] ![184, 52] ![0, 0] (columns a3 a4 a7 a8) fill pads_S128x4_S888x128_5761840_72520 h_S_))
    (pad S888x128 ![832, 0] ![55, 0] ![0, 0] (shapeCast S1x128 a5 shapeCasts_S128_S1x128) fill pads_S1x128_S888x128_832550_000 h_S_))
    (pad S888x128 ![840, 0] ![47, 0] ![0, 0] (shapeCast S1x128 a9 shapeCasts_S128_S1x128) fill pads_S1x128_S888x128_840470_000 h_S_))
    (pad S888x128 ![848, 0] ![39, 0] ![0, 0] (shapeCast S1x128 (extractStridedSlice S128 ![256] a11 slices_S384_S128_256) shapeCasts_S128_S1x128) fill
      pads_S1x128_S888x128_848390_000 h_S_))
    (pad S888x128 ![856, 0] ![31, 0] ![0, 0] (shapeCast S1x128 a13 shapeCasts_S128_S1x128) fill pads_S1x128_S888x128_856310_000 h_S_))
    (pad S888x128 ![864, 0] ![23, 64] ![0, 0] (shapeCast S1x64 a15 shapeCasts_S64_S1x64) fill pads_S1x64_S888x128_864230_0640 h_S_))
    (pad S888x128 ![872, 0] ![14, 0] ![0, 0] (shapeCast S2x128 a17 shapeCasts_S256_S2x128) fill pads_S2x128_S888x128_872140_000 h_S_)

/-- The packed weights at a place: thirteen tables, each at its own rows and columns. -/
theorem pack_apply (i : Fin 888) (j : Fin 128) :
    pack a2 a6 a12 a3 a4 a7 a8 a5 a9 a13 a10 a11 a14 a15 a16 a17 (ix2 i j)
      = slot 0 0 (fun a b => a2 (ix2 a b)) i j + slot 128 0 (fun a b => a6 (ix2 a b)) i j
        + slot 256 0 (fun a b : Fin 128 => a10 (ix2 ⟨256 + a.val, by omega⟩ b)) i j + slot 384 0 (fun a b => a12 (ix2 a b)) i j
        + slot 512 0 (fun a b => a14 (ix2 a b)) i j + slot 576 0 (fun a b => a16 (ix2 a b)) i j
        + slot 576 72 (fun a b => columns a3 a4 a7 a8 (ix2 a b)) i j
        + slot 832 0 (fun (_ : Fin 1) b => a5 (ix1 b)) i j + slot 840 0 (fun (_ : Fin 1) b => a9 (ix1 b)) i j
        + slot 848 0 (fun (_ : Fin 1) (b : Fin 128) => a11 (ix1 ⟨256 + b.val, by omega⟩)) i j + slot 856 0 (fun (_ : Fin 1) b => a13 (ix1 b)) i j
        + slot 864 0 (fun (_ : Fin 1) b => a15 (ix1 b)) i j
        + slot 872 0 (fun (a : Fin 2) (b : Fin 128) => a17 (ix1 ⟨a.val * 128 + b.val, by omega⟩)) i j := by
  have hadd (x y : FVec Ideal S888x128 .f32) : addf x y (ix2 i j) = x (ix2 i j) + y (ix2 i j) := rfl
  unfold pack
  simp only [hadd]
  iterate 12 refine congrArg₂ (· + ·) ?_ ((pad_slot _ _ _ i j).trans (congrArg (fun x => slot _ _ x i.val j.val) (funext fun a => funext fun b => ?_)))
  exact pad_slot _ _ _ i j
  all_goals pointwise

variable (i : Fin 888) (j : Fin 128)

/-- The first layer's weights. -/
theorem at_w1 (f k : Fin 128) (hi : i.val = f.val) (hj : j.val = k.val) :
    pack a2 a6 a12 a3 a4 a7 a8 a5 a9 a13 a10 a11 a14 a15 a16 a17 (ix2 i j) = a2 (ix2 f k) := by
  rw [pack_apply, slot_in (r := 0) (q := 0) (i := i.val) (j := j.val) _ f k (by omega) (by omega)]
  simp (disch := omega) only [slot_out, add_zero, zero_add]

/-- The second layer's weights. -/
theorem at_w2 (f k : Fin 128) (hi : i.val = 128 + f.val) (hj : j.val = k.val) :
    pack a2 a6 a12 a3 a4 a7 a8 a5 a9 a13 a10 a11 a14 a15 a16 a17 (ix2 i j) = a6 (ix2 f k) := by
  rw [pack_apply, slot_in (r := 128) (q := 0) (i := i.val) (j := j.val) _ f k (by omega) (by omega)]
  simp (disch := omega) only [slot_out, add_zero, zero_add]

/-- The value projection's weights. -/
theorem at_vw (f k : Fin 128) (hi : i.val = 256 + f.val) (hj : j.val = k.val) :
    pack a2 a6 a12 a3 a4 a7 a8 a5 a9 a13 a10 a11 a14 a15 a16 a17 (ix2 i j) = a10 (ix2 ⟨256 + f.val, by omega⟩ k) := by
  rw [pack_apply, slot_in (r := 256) (q := 0) (i := i.val) (j := j.val) _ f k (by omega) (by omega)]
  simp (disch := omega) only [slot_out, add_zero, zero_add]

/-- The output projection's weights. -/
theorem at_ow (f k : Fin 128) (hi : i.val = 384 + f.val) (hj : j.val = k.val) :
    pack a2 a6 a12 a3 a4 a7 a8 a5 a9 a13 a10 a11 a14 a15 a16 a17 (ix2 i j) = a12 (ix2 f k) := by
  rw [pack_apply, slot_in (r := 384) (q := 0) (i := i.val) (j := j.val) _ f k (by omega) (by omega)]
  simp (disch := omega) only [slot_out, add_zero, zero_add]

/-- The first linear map's weights. -/
theorem at_lw (f : Fin 64) (k : Fin 128) (hi : i.val = 512 + f.val) (hj : j.val = k.val) :
    pack a2 a6 a12 a3 a4 a7 a8 a5 a9 a13 a10 a11 a14 a15 a16 a17 (ix2 i j) = a14 (ix2 f k) := by
  rw [pack_apply, slot_in (r := 512) (q := 0) (i := i.val) (j := j.val) _ f k (by omega) (by omega)]
  simp (disch := omega) only [slot_out, add_zero, zero_add]

/-- The last linear map's weights. -/
theorem at_aw (f : Fin 256) (k : Fin 64) (hi : i.val = 576 + f.val) (hj : j.val = k.val) :
    pack a2 a6 a12 a3 a4 a7 a8 a5 a9 a13 a10 a11 a14 a15 a16 a17 (ix2 i j) = a16 (ix2 f k) := by
  rw [pack_apply, slot_in (r := 576) (q := 0) (i := i.val) (j := j.val) _ f k (by omega) (by omega)]
  simp (disch := omega) only [slot_out, add_zero, zero_add]

/-- The attention vectors. -/
theorem at_columns (f : Fin 128) (k : Fin 4) (hi : i.val = 576 + f.val) (hj : j.val = 72 + k.val) :
    pack a2 a6 a12 a3 a4 a7 a8 a5 a9 a13 a10 a11 a14 a15 a16 a17 (ix2 i j) = columns a3 a4 a7 a8 (ix2 f k) := by
  rw [pack_apply, slot_in (r := 576) (q := 72) (i := i.val) (j := j.val) _ f k (by omega) (by omega)]
  simp (disch := omega) only [slot_out, add_zero, zero_add]

/-- The first layer's bias. -/
theorem at_b1 (hi : i.val = 832) :
    pack a2 a6 a12 a3 a4 a7 a8 a5 a9 a13 a10 a11 a14 a15 a16 a17 (ix2 i j) = a5 (ix1 j) := by
  rw [pack_apply, slot_in (r := 832) (q := 0) (i := i.val) (j := j.val) _ 0 j (by omega) (by omega)]
  simp (disch := omega) only [slot_out, add_zero, zero_add]

/-- The second layer's bias. -/
theorem at_b2 (hi : i.val = 840) :
    pack a2 a6 a12 a3 a4 a7 a8 a5 a9 a13 a10 a11 a14 a15 a16 a17 (ix2 i j) = a9 (ix1 j) := by
  rw [pack_apply, slot_in (r := 840) (q := 0) (i := i.val) (j := j.val) _ 0 j (by omega) (by omega)]
  simp (disch := omega) only [slot_out, add_zero, zero_add]

/-- The value projection's bias. -/
theorem at_vb (hi : i.val = 848) :
    pack a2 a6 a12 a3 a4 a7 a8 a5 a9 a13 a10 a11 a14 a15 a16 a17 (ix2 i j) = a11 (ix1 ⟨256 + j.val, by omega⟩) := by
  rw [pack_apply, slot_in (r := 848) (q := 0) (i := i.val) (j := j.val) _ 0 j (by omega) (by omega)]
  simp (disch := omega) only [slot_out, add_zero, zero_add]

/-- The output projection's bias. -/
theorem at_ob (hi : i.val = 856) :
    pack a2 a6 a12 a3 a4 a7 a8 a5 a9 a13 a10 a11 a14 a15 a16 a17 (ix2 i j) = a13 (ix1 j) := by
  rw [pack_apply, slot_in (r := 856) (q := 0) (i := i.val) (j := j.val) _ 0 j (by omega) (by omega)]
  simp (disch := omega) only [slot_out, add_zero, zero_add]

/-- The first linear map's bias. -/
theorem at_lb (k : Fin 64) (hi : i.val = 864) (hj : j.val = k.val) :
    pack a2 a6 a12 a3 a4 a7 a8 a5 a9 a13 a10 a11 a14 a15 a16 a17 (ix2 i j) = a15 (ix1 k) := by
  rw [pack_apply, slot_in (r := 864) (q := 0) (i := i.val) (j := j.val) _ 0 k (by omega) (by omega)]
  simp (disch := omega) only [slot_out, add_zero, zero_add]

/-- The last linear map's bias, in two rows. -/
theorem at_ab (a : Fin 2) (hi : i.val = 872 + a.val) :
    pack a2 a6 a12 a3 a4 a7 a8 a5 a9 a13 a10 a11 a14 a15 a16 a17 (ix2 i j) = a17 (ix1 ⟨a.val * 128 + j.val, by omega⟩) := by
  rw [pack_apply, slot_in (r := 872) (q := 0) (i := i.val) (j := j.val) _ a j (by omega) (by omega)]
  simp (disch := omega) only [slot_out, add_zero, zero_add]

/-- The attention vectors' columns are the vectors, flat. -/
theorem columns_apply (k : Fin 128) :
    columns a3 a4 a7 a8 (ix2 k 0) = a3 (ix2 (head k) (off k)) ∧ columns a3 a4 a7 a8 (ix2 k 1) = a4 (ix2 (head k) (off k))
      ∧ columns a3 a4 a7 a8 (ix2 k 2) = a7 (ix2 (head k) (off k)) ∧ columns a3 a4 a7 a8 (ix2 k 3) = a8 (ix2 (head k) (off k)) := by
  refine ⟨?_, ?_, ?_, ?_⟩ <;> pointwise [columns, column, head, off]

/-- The packed weights, where the attention layers read them. -/
theorem pack_packed (W1 : Fin 128 → Fin 128 → ℝ) (u1 v1 b1 : Fin 128 → ℝ) (W2 : Fin 128 → Fin 128 → ℝ) (u2 v2 b2 : Fin 128 → ℝ)
    (h2 : ∀ f k, a2 (ix2 f k) = (W1 f k : EReal)) (h3 : ∀ k, a3 (ix2 (head k) (off k)) = (u1 k : EReal)) (h4 : ∀ k, a4 (ix2 (head k) (off k)) = (v1 k : EReal))
    (h5 : ∀ k, a5 (ix1 k) = (b1 k : EReal)) (h6 : ∀ f k, a6 (ix2 f k) = (W2 f k : EReal)) (h7 : ∀ k, a7 (ix2 (head k) (off k)) = (u2 k : EReal))
    (h8 : ∀ k, a8 (ix2 (head k) (off k)) = (v2 k : EReal)) (h9 : ∀ k, a9 (ix1 k) = (b2 k : EReal)) :
    Packed (pack a2 a6 a12 a3 a4 a7 a8 a5 a9 a13 a10 a11 a14 a15 a16 a17) W1 u1 v1 b1 W2 u2 v2 b2 where
  w1 f k := (at_w1 (hi := rfl) (hj := rfl) ..).trans (h2 f k)
  w2 f k := (at_w2 (hi := rfl) (hj := rfl) ..).trans (h6 f k)
  u1 k := ((at_columns (k := 0) (hi := rfl) (hj := rfl) ..).trans (columns_apply a3 a4 a7 a8 k).1).trans (h3 k)
  v1 k := ((at_columns (k := 1) (hi := rfl) (hj := rfl) ..).trans (columns_apply a3 a4 a7 a8 k).2.1).trans (h4 k)
  u2 k := ((at_columns (k := 2) (hi := rfl) (hj := rfl) ..).trans (columns_apply a3 a4 a7 a8 k).2.2.1).trans (h7 k)
  v2 k := ((at_columns (k := 3) (hi := rfl) (hj := rfl) ..).trans (columns_apply a3 a4 a7 a8 k).2.2.2).trans (h8 k)
  b1 f := (at_b1 (hi := rfl) ..).trans (h5 f)
  b2 f := (at_b2 (hi := rfl) ..).trans (h9 f)

variable (m : (ℓ : Loc nD τ sig) → Buf (Elt Ideal) ℓ) (c : Dev nD)

set_option maxHeartbeats 2000000 in
/-- At the launch the packed array holds `pack` of the arguments. -/
theorem entry_pack : Gen.V m c main_call0_v41
    = pack (m ((c : Thread nD τ).loc main_arg2)) (m ((c : Thread nD τ).loc main_arg6)) (m ((c : Thread nD τ).loc main_arg12))
      (m ((c : Thread nD τ).loc main_arg3)) (m ((c : Thread nD τ).loc main_arg4)) (m ((c : Thread nD τ).loc main_arg7)) (m ((c : Thread nD τ).loc main_arg8))
      (m ((c : Thread nD τ).loc main_arg5)) (m ((c : Thread nD τ).loc main_arg9)) (m ((c : Thread nD τ).loc main_arg13)) (m ((c : Thread nD τ).loc main_arg10))
      (m ((c : Thread nD τ).loc main_arg11)) (m ((c : Thread nD τ).loc main_arg14)) (m ((c : Thread nD τ).loc main_arg15)) (m ((c : Thread nD τ).loc main_arg16))
      (m ((c : Thread nD τ).loc main_arg17)) := by
  unfold Gen.V
  after_reads_simp
  rfl

end Cert.KernelIdeal.Block

end
-- ==== Proof.Result.lean ====
/- The eighteen arguments as one structure, the finiteness the precondition states of them, and the result both programs compute. -/
module

public import proofs.«01_k».proof.Proof.Math
public import Idealize.ShloMosaic.Lib.Pointwise

@[expose] public section

noncomputable section

namespace Cert.Gat

open Idealize.ShloMosaic

/-- An array of extended reals with one, two axes. -/
abbrev Arr1 (n : ℕ) : Type := (⟨1, ![n]⟩ : Shape).Idx → EReal
abbrev Arr2 (n k : ℕ) : Type := (⟨2, ![n, k]⟩ : Shape).Idx → EReal

/-- The arguments: signals and actions, the two attention layers, the attention projection, the linear maps. -/
structure Args where
  sig : Arr2 512 120
  act : Arr2 512 256
  W1 : Arr2 128 128
  u1 : Arr2 4 32
  v1 : Arr2 4 32
  b1 : Arr1 128
  W2 : Arr2 128 128
  u2 : Arr2 4 32
  v2 : Arr2 4 32
  b2 : Arr1 128
  inW : Arr2 384 128
  inB : Arr1 384
  outW : Arr2 128 128
  outB : Arr1 128
  lmW : Arr2 64 128
  lmB : Arr1 64
  apW : Arr2 256 64
  apB : Arr1 256

/-- An array holds real numbers only. -/
def IsReal {s : Shape} (x : s.Idx → EReal) : Prop := ∀ y, x y = ((x y).toReal : EReal)

/-- The finiteness the precondition states: signals, actions, both attention layers, and the query and key rows of the projection. -/
structure Args.Finite (A : Args) : Prop where
  sig : IsReal A.sig
  act : IsReal A.act
  W1 : IsReal A.W1
  u1 : IsReal A.u1
  v1 : IsReal A.v1
  b1 : IsReal A.b1
  W2 : IsReal A.W2
  u2 : IsReal A.u2
  v2 : IsReal A.v2
  b2 : IsReal A.b2
  inW : ∀ (i : Fin 256) (k : Fin 128), A.inW (ix2 ⟨i.val, by omega⟩ k) = ((A.inW (ix2 ⟨i.val, by omega⟩ k)).toReal : EReal)
  inB : ∀ i : Fin 256, A.inB (ix1 ⟨i.val, by omega⟩) = ((A.inB (ix1 ⟨i.val, by omega⟩)).toReal : EReal)

namespace Args

variable (A : Args)

/-- The arguments of the attention layers as real numbers. -/
def rsig (b : Fin 512) (k : Fin 120) : ℝ := (A.sig (ix2 b k)).toReal
def ract (b : Fin 512) (k : Fin 256) : ℝ := (A.act (ix2 b k)).toReal
def rW1 (f k : Fin 128) : ℝ := (A.W1 (ix2 f k)).toReal
def ru1 (k : Fin 128) : ℝ := (A.u1 (ix2 (head k) (Gat.off k))).toReal
def rv1 (k : Fin 128) : ℝ := (A.v1 (ix2 (head k) (Gat.off k))).toReal
def rb1 (k : Fin 128) : ℝ := (A.b1 (ix1 k)).toReal
def rW2 (f k : Fin 128) : ℝ := (A.W2 (ix2 f k)).toReal
def ru2 (k : Fin 128) : ℝ := (A.u2 (ix2 (head k) (Gat.off k))).toReal
def rv2 (k : Fin 128) : ℝ := (A.v2 (ix2 (head k) (Gat.off k))).toReal
def rb2 (k : Fin 128) : ℝ := (A.b2 (ix1 k)).toReal

/-- Agent 0's features of graph `b` after both attention layers. -/
def egoOf (b : Fin 512) (f : Fin 128) : ℝ :=
  ego (A.rsig b) (A.ract b) A.rW1 A.ru1 A.rv1 A.rb1 A.rW2 A.ru2 A.rv2 A.rb2 f

/-- The result: agent 0's features through the value projection and the linear maps. -/
def result : Arr2 512 256 := fun y =>
  tail (fun f => ((A.egoOf (y 0) f : ℝ) : EReal)) (fun f k => A.inW (ix2 ⟨256 + f.val, by omega⟩ k)) (fun f => A.inB (ix1 ⟨256 + f.val, by omega⟩))
    (fun f k => A.outW (ix2 f k)) (fun f => A.outB (ix1 f)) (fun f k => A.lmW (ix2 f k)) (fun f => A.lmB (ix1 f))
    (fun f k => A.apW (ix2 f k)) (fun f => A.apB (ix1 f)) (y 1)

end Args

end Cert.Gat

end
-- ==== Proof.Array.lean ====
/- The kernel's result array after the run: the result of `Cert.Gat`, from its two blocks of 256 graphs. -/
module

public import proofs.«01_k».proof.Proof.Pack
public import proofs.«01_k».proof.Proof.Result
public import proofs.«01_k».proof.Proof.Gen.KernelIdeal.Value
public import Idealize.ShloMosaic.Lib.Pipeline.ValueKit

@[expose] public section

set_option maxRecDepth 16384

noncomputable section

open scoped BigOperators

namespace Cert.KernelIdeal.Block

open Idealize.ShloMosaic Idealize.ShloMosaic.TcCoe Idealize.SL.Sem Cert.KernelIdeal Cert.KernelIdeal.Gen Cert.Gat

variable (m : (ℓ : Loc nD τ sig) → Buf (Elt Ideal) ℓ) (c : Dev nD)

/-- The arguments in device memory. -/
def args : Args where
  sig := m ((c : Thread nD τ).loc main_arg0)
  act := m ((c : Thread nD τ).loc main_arg1)
  W1 := m ((c : Thread nD τ).loc main_arg2)
  u1 := m ((c : Thread nD τ).loc main_arg3)
  v1 := m ((c : Thread nD τ).loc main_arg4)
  b1 := m ((c : Thread nD τ).loc main_arg5)
  W2 := m ((c : Thread nD τ).loc main_arg6)
  u2 := m ((c : Thread nD τ).loc main_arg7)
  v2 := m ((c : Thread nD τ).loc main_arg8)
  b2 := m ((c : Thread nD τ).loc main_arg9)
  inW := m ((c : Thread nD τ).loc main_arg10)
  inB := m ((c : Thread nD τ).loc main_arg11)
  outW := m ((c : Thread nD τ).loc main_arg12)
  outB := m ((c : Thread nD τ).loc main_arg13)
  lmW := m ((c : Thread nD τ).loc main_arg14)
  lmB := m ((c : Thread nD τ).loc main_arg15)
  apW := m ((c : Thread nD τ).loc main_arg16)
  apB := m ((c : Thread nD τ).loc main_arg17)

/-- The packed weights of the arguments. -/
abbrev packed (A : Args) : FVec Ideal S888x128 .f32 :=
  pack A.W1 A.W2 A.outW A.u1 A.v1 A.u2 A.v2 A.b1 A.b2 A.outB A.inW A.inB A.lmW A.lmB A.apW A.apB

/-- A block computed from rows of the arguments is the rows of the result. -/
theorem out_result (A : Args) (hA : A.Finite) (x0 : Vec Ideal S256x120 .f32) (x1 : Vec Ideal S256x256 .f32) (row : Fin 256 → Fin 512)
    (h0 : ∀ b k, x0 (ix2 b k) = A.sig (ix2 (row b) k)) (h1 : ∀ b k, x1 (ix2 b k) = A.act (ix2 (row b) k)) (b o : Fin 256) :
    out0_3 x0 x1 (packed A) (ix2 b o) = A.result (ix2 (row b) o) := by
  refine (out_apply x0 x1 (packed A) (fun b => A.rsig (row b)) (fun b => A.ract (row b)) A.rW1 A.ru1 A.rv1 A.rb1 A.rW2 A.ru2 A.rv2 A.rb2
    (fun b k => (h0 b k).trans (hA.sig _)) (fun b k => (h1 b k).trans (hA.act _))
    (pack_packed _ _ _ _ _ _ _ _ _ _ _ _ _ _ _ _ _ _ _ _ _ _ _ _ (fun _ _ => hA.W1 _) (fun _ => hA.u1 _) (fun _ => hA.v1 _) (fun _ => hA.b1 _)
      (fun _ _ => hA.W2 _) (fun _ => hA.u2 _) (fun _ => hA.v2 _) (fun _ => hA.b2 _)) b o).trans ?_
  have eVW (f k : Fin 128) : packed A (ix2 ⟨256 + f.val, by omega⟩ k) = A.inW (ix2 ⟨256 + f.val, by omega⟩ k) := at_vw (hi := rfl) (hj := rfl) ..
  have eVB (f : Fin 128) : packed A (ix2 848 f) = A.inB (ix1 ⟨256 + f.val, by omega⟩) := at_vb (hi := rfl) ..
  have eOW (f k : Fin 128) : packed A (ix2 ⟨384 + f.val, by omega⟩ k) = A.outW (ix2 f k) := at_ow (hi := rfl) (hj := rfl) ..
  have eOB (f : Fin 128) : packed A (ix2 856 f) = A.outB (ix1 f) := at_ob (hi := rfl) ..
  have eLW (f : Fin 64) (k : Fin 128) : packed A (ix2 ⟨512 + f.val, by omega⟩ k) = A.lmW (ix2 f k) := at_lw (hi := rfl) (hj := rfl) ..
  have eLB (f : Fin 64) : packed A (ix2 864 ⟨f.val, by omega⟩) = A.lmB (ix1 f) := at_lb (hi := rfl) (hj := rfl) ..
  have eAW (f : Fin 256) (k : Fin 64) : packed A (ix2 ⟨576 + f.val, by omega⟩ ⟨k.val, by omega⟩) = A.apW (ix2 f k) := at_aw (hi := rfl) (hj := rfl) ..
  have eAB (f : Fin 256) : (if h : f.val < 128 then packed A (ix2 872 ⟨f.val, h⟩) else packed A (ix2 873 ⟨f.val - 128, by omega⟩)) = A.apB (ix1 f) := by
    split
    · refine (at_ab (a := 0) (hi := rfl) ..).trans (congrArg A.apB (congrArg ix1 (Fin.ext ?_)))
      simp
    · refine (at_ab (a := 1) (hi := rfl) ..).trans (congrArg A.apB (congrArg ix1 (Fin.ext ?_)))
      simp
      omega
  simp only [eVW, eVB, eOW, eOB, eLW, eLB, eAW, eAB]
  rfl

/-- Where each window's block lies at each grid point. -/
theorem idx (t : Fin grid0.N) : win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0]) t

/-- The graph that row `b` of grid point `t`'s block holds. -/
def graph (t : Fin grid0.N) (b : Fin 256) : Fin 512 := ⟨t.val * 256 + b.val, by have h : t.val < 2 := t.isLt; omega⟩

theorem block0 (t : Fin cfg0.N) (b : Fin 256) (k : Fin 120) :
    (Gen.iblk m c 0 t : Vec Ideal S256x120 .f32) (ix2 b k) = (args m c).sig (ix2 (graph t b) k) := by
  blk_ext [Gen.iblk, Gen.V, idx t, args, graph]

theorem block1 (t : Fin cfg0.N) (b k : Fin 256) :
    (Gen.iblk m c 1 t : Vec Ideal S256x256 .f32) (ix2 b k) = (args m c).act (ix2 (graph t b) k) := by
  blk_ext [Gen.iblk, Gen.V, idx t, args, graph]

theorem block2 (t : Fin cfg0.N) : (Gen.iblk m c 2 t : Vec Ideal S888x128 .f32) = packed (args m c) := by
  refine Eq.trans (funext fun y => ?_) (entry_pack m c)
  blk_ext [Gen.iblk, idx t]

/-- The result array after the run. -/
theorem final (hA : (args m c).Finite) : (Gen.dats m 0 c).arrAt 3 cfg0.N = (args m c).result := by
  refine (Gen.dats m 0 c).arrAt_eq_of_covers 3 _ (by decide +kernel) fun t hf y => ?_
  blk_simp
  rw [after0_3, block2]
  obtain ⟨b, o, rfl⟩ : ∃ b o : Fin 256, y = (ix2 b o : S256x256.Idx) := ⟨y 0, y 1, by blk_ext⟩
  refine (out_result (args m c) hA _ _ (graph t) (block0 m c t) (block1 m c t) b o).trans (congrArg _ ?_)
  blk_ext [graph, idx t]

end Cert.KernelIdeal.Block

end
-- ==== Proof.RefOps.lean ====
/- The reference's gathers and scatter-adds of rows, read at an index: a gather takes the row its index word names, and a scatter-add
   sums the rows whose index word names the place. -/
module

public import proofs.«01_k».proof.Proof.Gen.ReferenceIdeal.Read
public import Idealize.ShloMosaic.Lib.Pointwise
public import Idealize.ShloMosaic.Lib.Pointwise.IndexBridge
public import Idealize.ShloMosaic.Lib.Routing.Ops
public import Idealize.ShloMosaic.Lib.Routing.OpsPair

@[expose] public section

set_option maxRecDepth 16384

noncomputable section

open scoped BigOperators

namespace Cert.ReferenceIdeal.Gat

open Idealize.ShloMosaic Cert.ReferenceIdeal

/-- A word that holds a node's number, read signed, is that number. -/
theorem toInt_node (n : ℕ) (hn : n < 2 ^ 31) : (BitVec.ofNat 32 n).toInt = n := StableHlo.Predicate.toInt_ofNat_small n hn

/-- A gathered row of scores: the node's that the word names. -/
theorem gather_scores (x : FVec Ideal S16384x4 .f32) (w : IVec S507904x1 32) (e : Fin 507904) (p : Fin 4) (n : Fin 16384)
    (h : w (ix2 e 0) = BitVec.ofNat 32 n.val) :
    Host.gather gather_S16384x4_S507904x1_S507904x4_1_0_n_n_0_1_14 x w (ix2 e p) = x (ix2 n p) := by
  simp only [ix2_eq_valueIdx] at h ⊢
  exact Routing.gather_row _ rfl rfl rfl rfl rfl x w e p n h (by norm_num)

/-- A gathered row of node features of one graph's agent 0. -/
theorem gather_ego (x : FVec Ideal S16384x128 .f32) (w : IVec S512x1 32) (e : Fin 512) (f : Fin 128) (n : Fin 16384)
    (h : w (ix2 e 0) = BitVec.ofNat 32 n.val) :
    Host.gather gather_S16384x128_S512x1_S512x128_1_0_n_n_0_1_1128 x w (ix2 e f) = x (ix2 n f) := by
  simp only [ix2_eq_valueIdx] at h ⊢
  exact Routing.gather_row _ rfl rfl rfl rfl rfl x w e f n h (by norm_num)

/-- The index word of a gathered features entry. -/
theorem features_word (e : Fin 507904) (p : Fin 4) (c : Fin 32) (k) :
    gather_S16384x4x32_S507904x1_S507904x4x32_12_0_n_n_0_1_1432.siIdx (ix3 e p c) k = ix2 e 0 := by
  funext b
  match b with
  | ⟨0, _⟩ => rfl
  | ⟨1, _⟩ => exact Subsingleton.elim (α := Fin 1) _ _

/-- A gathered row of features. -/
theorem gather_features (x : FVec Ideal S16384x4x32 .f32) (w : IVec S507904x1 32) (e : Fin 507904) (p : Fin 4) (c : Fin 32) (n : Fin 16384)
    (h : w (ix2 e 0) = BitVec.ofNat 32 n.val) :
    Host.gather gather_S16384x4x32_S507904x1_S507904x4x32_12_0_n_n_0_1_1432 x w (ix3 e p c) = x (ix3 n p c) := by
  unfold Host.gather
  refine congrArg x (funext fun a => Fin.ext ?_)
  have hn := n.isLt
  match a with
  | ⟨0, _⟩ =>
    show gather_S16384x4x32_S507904x1_S507904x4x32_12_0_n_n_0_1_1432.start (ix3 e p c) w 0 + 0 + 0 = n.val
    unfold GatherDims.start
    rw [dif_pos (show (0 : Fin S16384x4x32.rank) ∈ gather_S16384x4x32_S507904x1_S507904x4x32_12_0_n_n_0_1_1432.startIndexMap from List.mem_singleton.2 rfl), features_word, h, toInt_node _ (by omega)]
    show min ((n.val : Int)).toNat (16384 - 1) + 0 + 0 = n.val
    omega
  | ⟨1, _⟩ =>
    show 0 + 0 + p.val = p.val
    omega
  | ⟨2, _⟩ =>
    show 0 + 0 + c.val = c.val
    omega

/-- The index word of an update of scores. -/
theorem update_word2 (e : Fin 507904) (p : Fin 4) (k) :
    scatter_S16384x4_S507904x1_S507904x4_1_0_0_1.siIdx (ix2 e p) k = ix2 e 0 := by
  funext b
  match b with
  | ⟨0, _⟩ => rfl
  | ⟨1, _⟩ => exact Subsingleton.elim (α := Fin 1) _ _

/-- The index word of an update of features. -/
theorem update_word3 (e : Fin 507904) (p : Fin 4) (c : Fin 32) (k) :
    scatter_S16384x4x32_S507904x1_S507904x4x32_12_0_0_1.siIdx (ix3 e p c) k = ix2 e 0 := by
  funext b
  match b with
  | ⟨0, _⟩ => rfl
  | ⟨1, _⟩ => exact Subsingleton.elim (α := Fin 1) _ _

/-- Where an update of scores lands: the node its word names, the same head. -/
theorem lands2 (w : IVec S507904x1 32) (e : Fin 507904) (p q : Fin 4) (t n : Fin 16384) (h : w (ix2 e 0) = BitVec.ofNat 32 t.val) :
    scatter_S16384x4_S507904x1_S507904x4_1_0_0_1.resultIdx? (ix2 e p) w = some (ix2 n q) ↔ t = n ∧ p = q := by
  have ht := t.isLt
  rw [Routing.resultIdx?_eq_some]
  refine Fin.forall_fin_two.trans (and_congr ?_ ?_)
  · unfold ScatterDims.start
    rw [dif_pos (show (0 : Fin S16384x4.rank) ∈ scatter_S16384x4_S507904x1_S507904x4_1_0_0_1.scatterDimsToOperandDims from List.mem_singleton.2 rfl), update_word2, h, toInt_node _ (by omega)]
    show (t.val : Int) + ((0 : ℕ) : Int) = (n.val : Int) ↔ _
    rw [Fin.ext_iff]
    omega
  · show (0 : Int) + (p.val : Int) = (q.val : Int) ↔ _
    rw [Fin.ext_iff]
    omega

/-- Where an update of features lands: the node its word names, the same head and channel. -/
theorem lands3 (w : IVec S507904x1 32) (e : Fin 507904) (p q : Fin 4) (c d : Fin 32) (t n : Fin 16384) (h : w (ix2 e 0) = BitVec.ofNat 32 t.val) :
    scatter_S16384x4x32_S507904x1_S507904x4x32_12_0_0_1.resultIdx? (ix3 e p c) w = some (ix3 n q d) ↔ t = n ∧ p = q ∧ c = d := by
  have ht := t.isLt
  rw [Routing.resultIdx?_eq_some]
  refine (Fin.forall_fin_succ.trans (and_congr Iff.rfl Fin.forall_fin_two)).trans (and_congr ?_ (and_congr ?_ ?_))
  · unfold ScatterDims.start
    rw [dif_pos (show (0 : Fin S16384x4x32.rank) ∈ scatter_S16384x4x32_S507904x1_S507904x4x32_12_0_0_1.scatterDimsToOperandDims from List.mem_singleton.2 rfl), update_word3, h, toInt_node _ (by omega)]
    show (t.val : Int) + ((0 : ℕ) : Int) = (n.val : Int) ↔ _
    rw [Fin.ext_iff]
    omega
  · show (0 : Int) + (p.val : Int) = (q.val : Int) ↔ _
    rw [Fin.ext_iff]
    omega
  · show (0 : Int) + (c.val : Int) = (d.val : Int) ↔ _
    rw [Fin.ext_iff]
    omega

/-- Scores scattered and added from zero: at a node, the sum over the edges whose word names it. -/
theorem scatter_scores (z : FVec Ideal S16384x4 .f32) (hz : ∀ y, z y = 0) (w : IVec S507904x1 32) (node : Fin 507904 → Fin 16384)
    (h : ∀ e, w (ix2 e 0) = BitVec.ofNat 32 (node e).val) (u : FVec Ideal S507904x4 .f32) (n : Fin 16384) (p : Fin 4) :
    Host.scatterAdd scatter_S16384x4_S507904x1_S507904x4_1_0_0_1 z w u (ix2 n p) = ∑ e, if node e = n then u (ix2 e p) else 0 := by
  show z (ix2 n p) + ∑ j ∈ Finset.univ.filter (fun j => scatter_S16384x4_S507904x1_S507904x4_1_0_0_1.resultIdx? j w = some (ix2 n p)), u j = _
  rw [hz, zero_add, ← Finset.sum_filter]
  refine (Finset.sum_bij (fun e _ => (ix2 e p : S507904x4.Idx)) (fun e he => ?_) (fun e _ e' _ hee => ?_) (fun j hj => ?_) (fun e _ => rfl)).symm
  · exact Finset.mem_filter.2 ⟨Finset.mem_univ _, (lands2 w e p p (node e) n (h e)).2 ⟨(Finset.mem_filter.1 he).2, rfl⟩⟩
  · exact congrFun hee 0
  · obtain ⟨e, q, rfl⟩ : ∃ (e : Fin 507904) (q : Fin 4), j = ix2 e q := ⟨j 0, j 1, eq_ix2 j⟩
    have hl := (lands2 w e q p (node e) n (h e)).1 (Finset.mem_filter.1 hj).2
    exact ⟨e, Finset.mem_filter.2 ⟨Finset.mem_univ _, hl.1⟩, by rw [hl.2]⟩

/-- Features scattered and added from zero: at a node, the sum over the edges whose word names it. -/
theorem scatter_features (z : FVec Ideal S16384x4x32 .f32) (hz : ∀ y, z y = 0) (w : IVec S507904x1 32) (node : Fin 507904 → Fin 16384)
    (h : ∀ e, w (ix2 e 0) = BitVec.ofNat 32 (node e).val) (u : FVec Ideal S507904x4x32 .f32) (n : Fin 16384) (p : Fin 4) (c : Fin 32) :
    Host.scatterAdd scatter_S16384x4x32_S507904x1_S507904x4x32_12_0_0_1 z w u (ix3 n p c) = ∑ e, if node e = n then u (ix3 e p c) else 0 := by
  show z (ix3 n p c) + ∑ j ∈ Finset.univ.filter (fun j => scatter_S16384x4x32_S507904x1_S507904x4x32_12_0_0_1.resultIdx? j w = some (ix3 n p c)), u j = _
  rw [hz, zero_add, ← Finset.sum_filter]
  refine (Finset.sum_bij (fun e _ => (ix3 e p c : S507904x4x32.Idx)) (fun e he => ?_) (fun e _ e' _ hee => ?_) (fun j hj => ?_) (fun e _ => rfl)).symm
  · exact Finset.mem_filter.2 ⟨Finset.mem_univ _, (lands3 w e p p c c (node e) n (h e)).2 ⟨(Finset.mem_filter.1 he).2, rfl, rfl⟩⟩
  · exact congrFun hee 0
  · obtain ⟨e, q, d, rfl⟩ : ∃ (e : Fin 507904) (q : Fin 4) (d : Fin 32), j = ix3 e q d := ⟨j 0, j 1, j 2, eq_ix3 j⟩
    have hl := (lands3 w e q p d c (node e) n (h e)).1 (Finset.mem_filter.1 hj).2
    exact ⟨e, Finset.mem_filter.2 ⟨Finset.mem_univ _, hl.1⟩, by rw [hl.2.1, hl.2.2]⟩

end Cert.ReferenceIdeal.Gat

end
-- ==== Proof.Edges.lean ====
/- The edges of the reference: which agents edge number e joins, the words that hold their numbers, and a sum over the edges into
   one agent as a sum over the other agents of its graph. -/
module

public import proofs.«01_k».proof.Proof.RefOps
public import Idealize.ShloMosaic.Lib.WordCmp
public import Idealize.ShloMosaic.Lib.Tactic.WordOmega

@[expose] public section

set_option maxRecDepth 16384

noncomputable section

open scoped BigOperators

namespace Cert.ReferenceIdeal.Gat

open Idealize.ShloMosaic Cert.ReferenceIdeal Cert.ReferenceIdeal.Gen Cert.ReferenceIdeal.Read

/-- The node number of an agent of a graph. -/
def agent (b : Fin 512) (a : Fin 32) : Fin 16384 := ⟨32 * b.val + a.val, by omega⟩

/-- The source agent of row r of one graph's 992 edges. -/
def src (r : Fin 992) : Fin 32 := ⟨r.val / 31, by omega⟩

/-- The target agent of row r: the r-th-modulo-31 agent other than the source. -/
def dst (r : Fin 992) : Fin 32 := ⟨r.val % 31 + (if r.val / 31 ≤ r.val % 31 then 1 else 0), by split <;> omega⟩

/-- The graph an edge lies in. -/
def graphOf (e : Fin 507904) : Fin 512 := ⟨e.val / 992, by omega⟩

/-- The row of an edge in its graph. -/
def rowOf (e : Fin 507904) : Fin 992 := ⟨e.val % 992, by omega⟩

/-- The node an edge leaves. -/
def source (e : Fin 507904) : Fin 16384 := agent (graphOf e) (src (rowOf e))

/-- The node an edge enters. -/
def target (e : Fin 507904) : Fin 16384 := agent (graphOf e) (dst (rowOf e))

/-- The edge from agent i to another agent j of graph b. -/
def edge (b : Fin 512) (i j : Fin 32) : Fin 507904 := ⟨992 * b.val + 31 * i.val + (if j.val < i.val then j.val else j.val - 1), by split <;> omega⟩

theorem agent_inj {b b' : Fin 512} {a a' : Fin 32} (h : agent b a = agent b' a') : b = b' ∧ a = a' := by
  have h' := congrArg Fin.val h
  simp only [agent] at h'
  exact ⟨Fin.ext (by omega), Fin.ext (by omega)⟩

/-- An edge joins two different agents. -/
theorem dst_ne_src (r : Fin 992) : dst r ≠ src r := by
  intro h
  have h' := congrArg Fin.val h
  simp only [dst, src] at h'
  split at h' <;> omega

theorem graphOf_edge (b : Fin 512) (i j : Fin 32) : graphOf (edge b i j) = b := by
  apply Fin.ext
  simp only [graphOf, edge]
  split <;> omega

theorem src_edge (b : Fin 512) (i j : Fin 32) : src (rowOf (edge b i j)) = i := by
  apply Fin.ext
  simp only [src, rowOf, edge]
  split <;> omega

theorem dst_edge (b : Fin 512) (i j : Fin 32) (h : j ≠ i) : dst (rowOf (edge b i j)) = j := by
  have h' : j.val ≠ i.val := fun hv => h (Fin.ext hv)
  apply Fin.ext
  simp only [dst, rowOf, edge]
  split <;> split <;> omega

/-- A row's number from its source and its target. -/
theorem row_eq (r : ℕ) (k : ℕ) (hk : k = r % 31 + (if r / 31 ≤ r % 31 then 1 else 0)) :
    31 * (r / 31) + (if k < r / 31 then k else k - 1) = r := by
  split at hk <;> split <;> omega

/-- An edge is determined by its graph, its source and its target. -/
theorem edge_eq (e : Fin 507904) : edge (graphOf e) (src (rowOf e)) (dst (rowOf e)) = e := by
  have hr := row_eq (e.val % 992) _ rfl
  apply Fin.ext
  refine (Nat.add_assoc _ _ _).trans ((congrArg (992 * (e.val / 992) + ·) hr).trans ?_)
  omega

/-- A sum over the edges into agent j of graph b is a sum over the other agents. -/
theorem sum_edges (b : Fin 512) (j : Fin 32) (G : Fin 507904 → EReal) (H : Fin 32 → EReal)
    (hG : ∀ e, graphOf e = b → dst (rowOf e) = j → G e = H (src (rowOf e))) :
    ∑ e, (if target e = agent b j then G e else 0) = ∑ i, if j = i then 0 else H i := by
  have hr : ∀ i, (if j = i then (0 : EReal) else H i) = if ¬ j = i then H i else 0 := fun i => (ite_not _ _ _).symm
  simp only [hr]
  rw [← Finset.sum_filter, ← Finset.sum_filter]
  refine Finset.sum_bij (fun e _ => src (rowOf e)) (fun e he => ?_) (fun e he e' he' hs => ?_) (fun i hi => ?_) (fun e he => ?_)
  · obtain ⟨-, ht⟩ := agent_inj (Finset.mem_filter.1 he).2
    exact Finset.mem_filter.2 ⟨Finset.mem_univ _, ht ▸ dst_ne_src _⟩
  · obtain ⟨hb, ht⟩ := agent_inj (Finset.mem_filter.1 he).2
    obtain ⟨hb', ht'⟩ := agent_inj (Finset.mem_filter.1 he').2
    rw [← edge_eq e, ← edge_eq e', hb, hb', ht, ht', hs]
  · have hj := (Finset.mem_filter.1 hi).2
    refine ⟨edge b i j, Finset.mem_filter.2 ⟨Finset.mem_univ _, ?_⟩, src_edge b i j⟩
    rw [target, graphOf_edge, dst_edge b i j hj]
  · obtain ⟨hb, ht⟩ := agent_inj (Finset.mem_filter.1 he).2
    exact hG e hb ht

/-- The word of a row's source: the row's number divided by 31. -/
theorem src_word : ∀ r : Fin 992, IntOp.divsi .host (BitVec.ofNat 32 r.val) 31#32 = BitVec.ofNat 32 (src r).val := by
  decide +kernel

/-- The word of a row's target: the remainder, moved past the source. -/
theorem dst_word : ∀ r : Fin 992, IntOp.addi (IntOp.remsi .host (BitVec.ofNat 32 r.val) 31#32)
    ((IntOp.cmpi .sge (IntOp.remsi .host (BitVec.ofNat 32 r.val) 31#32) (IntOp.divsi .host (BitVec.ofNat 32 r.val) 31#32)).setWidth 32)
      = BitVec.ofNat 32 (dst r).val := by
  decide +kernel

/-- The word of a node's number from its graph's and its agent's. -/
theorem agent_word (b : Fin 512) (a : Fin 32) :
    IntOp.addi (IntOp.muli (BitVec.ofNat 32 b.val) 32#32) (BitVec.ofNat 32 a.val) = BitVec.ofNat 32 (agent b a).val := by
  apply BitVec.eq_of_toNat_eq
  simp only [IntOp.addi, IntOp.muli, agent, BitVec.toNat_add, BitVec.toNat_mul, BitVec.toNat_ofNat]
  omega

/-- The source's word of every edge. -/
theorem source_word (e : Fin 507904) : val_main_v22 (F := Ideal) (ix1 e) = BitVec.ofNat 32 (source e).val := by
  rw [val_main_v22_apply, val_main_v21_apply, val_main_v19_apply, val_main_v17_apply, val_main_v16_apply, val_main_v20_apply, val_main_v18_apply,
    val_main_v8_apply]
  exact (congrArg₂ IntOp.addi rfl (src_word (rowOf e))).trans (agent_word (graphOf e) (src (rowOf e)))

/-- The target's word of every edge. -/
theorem target_word (e : Fin 507904) : val_main_v28 (F := Ideal) (ix1 e) = BitVec.ofNat 32 (target e).val := by
  rw [val_main_v28_apply, val_main_v27_apply, val_main_v25_apply, val_main_v23_apply, val_main_v16_apply, val_main_v26_apply, val_main_v24_apply,
    val_main_v13_apply, val_main_v12_apply, val_main_v11_apply, val_main_v10_apply, val_main_v8_apply]
  exact (congrArg₂ IntOp.addi rfl (dst_word (rowOf e))).trans (agent_word (graphOf e) (dst (rowOf e)))

/-- The column of index words of a table of node numbers. -/
def column (v : IVec S507904 32) : IVec S507904x1 32 := broadcastInDim S507904x1 ![0] bcast_S507904_S507904x1_0 v

/-- The same column after the wrap of negative numbers. -/
def wrapped (v : IVec S507904 32) : IVec S507904x1 32 :=
  broadcastInDim S507904x1 ![0] bcast_S507904_S507904x1_0
    (select (cmpi .slt v (broadcastInDim S507904 ![] bcast_S_S507904 (constantI S_ 32 (BitVec.ofNat 32 0))))
      (addi v (broadcastInDim S507904 ![] bcast_S_S507904 (constantI S_ 32 (BitVec.ofNat 32 16384)))) v)

theorem column_apply (v : IVec S507904 32) (e : Fin 507904) : column v (ix2 e 0) = v (ix1 e) := by
  pointwise [column]

/-- No node's number is negative, so the wrap leaves its word. -/
theorem wrapped_apply (v : IVec S507904 32) (e : Fin 507904) (n : Fin 16384) (h : v (ix1 e) = BitVec.ofNat 32 n.val) :
    wrapped v (ix2 e 0) = BitVec.ofNat 32 n.val := by
  have hw : wrapped v (ix2 e 0) = Scalar.select (IntOp.cmpi .slt (v (ix1 e)) 0#32) (IntOp.addi (v (ix1 e)) 16384#32) (v (ix1 e)) := by
    pointwise [wrapped]
  have hn := n.isLt
  rw [hw, h]
  refine Routing.wrap_of_lt _ _ ?_
  rw [BitVec.toNat_ofNat]
  omega

end Cert.ReferenceIdeal.Gat

end
-- ==== Proof.Layer.lean ====
/- One attention layer of the reference as a function of its node features and weights, stage by stage: the terms the reference's two
   layers are instances of. -/
module

public import proofs.«01_k».proof.Proof.Edges

@[expose] public section

set_option maxRecDepth 16384

noncomputable section

open scoped BigOperators

namespace Cert.ReferenceIdeal.Gat

open Idealize.ShloMosaic Cert.ReferenceIdeal Cert.ReferenceIdeal.Gen Cert.ReferenceIdeal.Read

/-- The sources of the edges. -/
abbrev sources : IVec S507904 32 := val_main_v22 (F := Ideal)

/-- The targets of the edges. -/
abbrev targets : IVec S507904 32 := val_main_v28 (F := Ideal)

/-- The features of every node by head and channel. -/
def feat (X : FVec Ideal S16384x128 .f32) (W : FVec Ideal S128x128 .f32) : FVec Ideal S16384x4x32 .f32 :=
  shapeCast _ (Host.dotGeneral dot_S16384x128_S128x128_S16384x128_1_0_0_1_n_n none X (transpose S128x128 [1, 0] W transposes_S128x128_S128x128_1_0))
    shapeCasts_S16384x128_S16384x4x32

/-- The score of every node and head against one table of attention weights. -/
def att (H : FVec Ideal S16384x4x32 .f32) (u : FVec Ideal S4x32 .f32) : FVec Ideal S16384x4 .f32 :=
  Host.reduceAdd (mulf H (broadcastInDim S16384x4x32 ![0, 1, 2] bcast_S1x4x32_S16384x4x32_0_1_2 (broadcastInDim S1x4x32 ![1, 2] bcast_S4x32_S1x4x32_1_2 u)))
    (constant S_ .f32 0x00000000#32) reducesTo_S16384x4x32_S16384x4_d2 h_S_

/-- The sum of the two scores an edge meets. -/
def meet (A B : FVec Ideal S16384x4 .f32) : FVec Ideal S507904x4 .f32 :=
  addf (Host.gather gather_S16384x4_S507904x1_S507904x4_1_0_n_n_0_1_14 A (wrapped sources))
    (Host.gather gather_S16384x4_S507904x1_S507904x4_1_0_n_n_0_1_14 B (wrapped targets))

/-- The logit of every edge: the sum of the scores, made small where negative. -/
def slack (L : FVec Ideal S507904x4 .f32) : FVec Ideal S507904x4 .f32 :=
  select (cmpf .oge L (broadcastInDim S507904x4 ![] bcast_S_S507904x4 (constant S_ .f32 0x00000000#32))) L
    (mulf (broadcastInDim S507904x4 ![] bcast_S_S507904x4 (id (constant S_ .f32 0x3E4CCCCD#32))) L)

/-- The greatest logit among the edges into each node. -/
def top (L : FVec Ideal S507904x4 .f32) : FVec Ideal S16384x4 .f32 :=
  Host.reduce FloatOps.maximumf
    (select
      (broadcastInDim S16384x507904x4 ![0, 1, 2] bcast_S16384x507904x1_S16384x507904x4_0_1_2
        (broadcastInDim S16384x507904x1 ![0, 1] bcast_S16384x507904_S16384x507904x1_0_1
          (cmpi .eq
            (broadcastInDim S16384x507904 ![0, 1] bcast_S1x507904_S16384x507904_0_1 (broadcastInDim S1x507904 ![1] bcast_S507904_S1x507904_1 targets))
            (broadcastInDim S16384x507904 ![0, 1] bcast_S16384x1_S16384x507904_0_1
              (broadcastInDim S16384x1 ![0] bcast_S16384_S16384x1_0 (iotaInDim S16384 32 0))))))
      (broadcastInDim S16384x507904x4 ![0, 1, 2] bcast_S1x507904x4_S16384x507904x4_0_1_2
        (broadcastInDim S1x507904x4 ![1, 2] bcast_S507904x4_S1x507904x4_1_2 L))
      (broadcastInDim S16384x507904x4 ![] bcast_S_S16384x507904x4 (id (constant S_ .f32 0xFF800000#32))))
    (constant S_ .f32 0xFF800000#32) reducesTo_S16384x507904x4_S16384x4_d1 h_S_

/-- A table with 0 put where it is not finite. -/
def tame (M : FVec Ideal S16384x4 .f32) : FVec Ideal S16384x4 .f32 :=
  select (cmpf .olt (Host.absf M) (broadcastInDim S16384x4 ![] bcast_S_S16384x4 (constant S_ .f32 0x7F800000#32))) M
    (broadcastInDim S16384x4 ![] bcast_S_S16384x4 (id (constant S_ .f32 0x00000000#32)))

/-- The weight of every edge: the exponential of its logit less its target's greatest. -/
def heft (L : FVec Ideal S507904x4 .f32) (M : FVec Ideal S16384x4 .f32) : FVec Ideal S507904x4 .f32 :=
  Host.exp (subf L (Host.gather gather_S16384x4_S507904x1_S507904x4_1_0_n_n_0_1_14 M (wrapped targets)))

/-- The sum of the weights of the edges into each node. -/
def total (E : FVec Ideal S507904x4 .f32) : FVec Ideal S16384x4 .f32 :=
  Host.scatterAdd scatter_S16384x4_S507904x1_S507904x4_1_0_0_1 (broadcastInDim S16384x4 ![] bcast_S_S16384x4 (constant S_ .f32 0x00000000#32))
    (column targets) E

/-- Each edge's share of its target's sum. -/
def share (E : FVec Ideal S507904x4 .f32) (D : FVec Ideal S16384x4 .f32) : FVec Ideal S507904x4 .f32 :=
  Host.divf E (Host.gather gather_S16384x4_S507904x1_S507904x4_1_0_n_n_0_1_14 D (wrapped targets))

/-- The sum, into each node, of the sources' features times the shares. -/
def gathered (H : FVec Ideal S16384x4x32 .f32) (A : FVec Ideal S507904x4 .f32) : FVec Ideal S16384x4x32 .f32 :=
  Host.scatterAdd scatter_S16384x4x32_S507904x1_S507904x4x32_12_0_0_1
    (broadcastInDim S16384x4x32 ![] bcast_S_S16384x4x32 (constant S_ .f32 0x00000000#32)) (column targets)
    (mulf (Host.gather gather_S16384x4x32_S507904x1_S507904x4x32_12_0_n_n_0_1_1432 H (wrapped sources))
      (broadcastInDim S507904x4x32 ![0, 1, 2] bcast_S507904x4x1_S507904x4x32_0_1_2 (broadcastInDim S507904x4x1 ![0, 1] bcast_S507904x4_S507904x4x1_0_1 A)))

/-- The bias added and negative entries cut to 0. -/
def finish (C : FVec Ideal S16384x4x32 .f32) (b : FVec Ideal S128 .f32) : FVec Ideal S16384x128 .f32 :=
  maximumf
    (addf (shapeCast _ C shapeCasts_S16384x4x32_S16384x128)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The weights of the edges from the features' scores. -/
def hefts (H : FVec Ideal S16384x4x32 .f32) (u v : FVec Ideal S4x32 .f32) : FVec Ideal S507904x4 .f32 :=
  heft (slack (meet (att H u) (att H v))) (tame (top (slack (meet (att H u) (att H v)))))

/-- One layer from its features. -/
def convolve (H : FVec Ideal S16384x4x32 .f32) (u v : FVec Ideal S4x32 .f32) (b : FVec Ideal S128 .f32) : FVec Ideal S16384x128 .f32 :=
  finish (gathered H (share (hefts H u v) (total (hefts H u v)))) b

/-- One layer. -/
def layer (X : FVec Ideal S16384x128 .f32) (W : FVec Ideal S128x128 .f32) (u v : FVec Ideal S4x32 .f32) (b : FVec Ideal S128 .f32) :
    FVec Ideal S16384x128 .f32 := convolve (feat X W) u v b

/-- The reference's first layer. -/
theorem layer_one (x0 : FVec Ideal S512x120 .f32) (x1 : FVec Ideal S512x256 .f32) (x2 : FVec Ideal S128x128 .f32) (x3 x4 : FVec Ideal S4x32 .f32)
    (x5 : FVec Ideal S128 .f32) :
    val_main_v107 (F := Ideal) x0 x1 x2 x3 x4 x5 = layer (val_main_v5 (F := Ideal) x0 x1) x2 x3 x4 x5 := rfl

/-- The reference's second layer. -/
theorem layer_two (x0 : FVec Ideal S512x120 .f32) (x1 : FVec Ideal S512x256 .f32) (x2 : FVec Ideal S128x128 .f32) (x3 x4 : FVec Ideal S4x32 .f32)
    (x5 : FVec Ideal S128 .f32) (x6 : FVec Ideal S128x128 .f32) (x7 x8 : FVec Ideal S4x32 .f32) (x9 : FVec Ideal S128 .f32) :
    val_main_v186 (F := Ideal) x0 x1 x2 x3 x4 x5 x6 x7 x8 x9 = layer (val_main_v107 (F := Ideal) x0 x1 x2 x3 x4 x5) x6 x7 x8 x9 := rfl

end Cert.ReferenceIdeal.Gat

end
-- ==== Proof.LayerValue.lean ====
/- One attention layer of the reference, read at an index: every stage as the real number `Cert.Gat` names. -/
module

public import proofs.«01_k».proof.Proof.Layer
public import proofs.«01_k».proof.Proof.Math

@[expose] public section

set_option maxRecDepth 16384

noncomputable section

open scoped BigOperators

namespace Cert.ReferenceIdeal.Gat

open Idealize.ShloMosaic Cert.ReferenceIdeal Cert.ReferenceIdeal.Gen Cert.Gat

/-- Two scores gathered for an edge and added. -/
theorem meet_apply (A B : FVec Ideal S16384x4 .f32) (e : Fin 507904) (p : Fin 4) :
    meet A B (ix2 e p) = A (ix2 (source e) p) + B (ix2 (target e) p) :=
  congrArg₂ (· + ·) (gather_scores _ _ _ _ _ (wrapped_apply _ _ _ (source_word e))) (gather_scores _ _ _ _ _ (wrapped_apply _ _ _ (target_word e)))

/-- The literal 0.2 as a real number. -/
theorem slope_value : (FloatOps.ofBits (F := Ideal) (φ := .f32) 0x3E4CCCCD#32 : EReal) = (negSlope : EReal) := by
  unfold negSlope
  show Ideal.ofBits _ _ = _
  simp [Ideal.ofBits, Ideal.ieee, -EReal.coe_mul]
  norm_num

/-- The literal 0 as a real number. -/
theorem zero_value : (FloatOps.ofBits (F := Ideal) (φ := .f32) 0x00000000#32 : EReal) = ((0 : ℝ) : EReal) := by
  show Ideal.ofBits _ _ = _
  simp [Ideal.ofBits, Ideal.ieee]

/-- The leaky rectifier on a real number. -/
theorem slack_apply (L : FVec Ideal S507904x4 .f32) (e : Fin 507904) (p : Fin 4) (t : ℝ) (h : L (ix2 e p) = (t : EReal)) :
    slack L (ix2 e p) = ((leaky t : ℝ) : EReal) := by
  pointwise [slack]
  have hs : (id (constant (F := Ideal) S_ .f32 0x3E4CCCCD#32)) ix0 = (negSlope : EReal) := slope_value
  rw [h, hs, leaky_eq, ← EReal.coe_mul]
  by_cases h0 : 0 ≤ t
  · rw [if_pos h0, if_pos (EReal.coe_nonneg.2 h0)]
  · rw [if_neg h0, if_neg (fun hc => h0 (EReal.coe_nonneg.1 hc))]

/-- An extended real whose absolute value lies below infinity is a real number. -/
theorem real_of_abs_lt {x : EReal} (h : (FloatOps.absf (F := Ideal) (φ := .f32) x : EReal) < ⊤) : (x.toReal : EReal) = x := by
  have hm : max x (-x) < ⊤ := h
  refine EReal.coe_toReal (fun ht => ?_) (fun hb => ?_)
  · rw [ht] at hm
    exact absurd hm (by simp)
  · rw [hb] at hm
    exact absurd hm (by simp)

/-- The tamed greatest logit is a real number, whatever it was. -/
theorem tame_apply (M : FVec Ideal S16384x4 .f32) (y : S16384x4.Idx) : ∃ r : ℝ, tame M y = (r : EReal) := by
  pointwise [tame]
  have hz : (id (constant (F := Ideal) S_ .f32 0x00000000#32)) ix0 = ((0 : ℝ) : EReal) := zero_value
  have ht : Ideal.ofBits .f32 0x7F800000#32 = ⊤ := by simp [Ideal.ofBits, Ideal.ieee]
  rw [hz, ht]
  split
  · rename_i hlt
    exact ⟨(M y).toReal, (real_of_abs_lt hlt).symm⟩
  · exact ⟨0, rfl⟩

/-- The weight of an edge. -/
theorem heft_apply (L : FVec Ideal S507904x4 .f32) (M : FVec Ideal S16384x4 .f32) (e : Fin 507904) (p : Fin 4) (t r : ℝ)
    (hL : L (ix2 e p) = (t : EReal)) (hM : M (ix2 (target e) p) = (r : EReal)) : heft L M (ix2 e p) = ((Real.exp (t - r) : ℝ) : EReal) := by
  have hg := gather_scores M (wrapped targets) e p (target e) (wrapped_apply _ _ _ (target_word e))
  show Ideal.exp (L (ix2 e p) - _) = _
  rw [hg, hL, hM, ← EReal.coe_sub, Ideal.exp_coe]

/-- The sum of the weights into a node. -/
theorem total_apply (E : FVec Ideal S507904x4 .f32) (b : Fin 512) (j : Fin 32) (p : Fin 4) (w : Fin 32 → ℝ)
    (hE : ∀ e, graphOf e = b → dst (rowOf e) = j → E (ix2 e p) = (w (src (rowOf e)) : EReal)) :
    total E (ix2 (agent b j) p) = ((∑ i, if j = i then 0 else w i : ℝ) : EReal) := by
  have hz : ∀ y, (broadcastInDim S16384x4 ![] bcast_S_S16384x4 (constant (F := Ideal) S_ .f32 0x00000000#32)) y = 0 := by
    intro y
    pointwise
  refine (scatter_scores _ hz _ target (fun e => (column_apply _ e).trans (target_word e)) _ _ _).trans ?_
  rw [sum_edges b j (fun e => E (ix2 e p)) (fun i => (w i : EReal)) hE]
  refine sum_coe _ _ _ fun i _ => ?_
  split <;> rfl

/-- The share of an edge. -/
theorem share_apply (E : FVec Ideal S507904x4 .f32) (D : FVec Ideal S16384x4 .f32) (e : Fin 507904) (p : Fin 4) (w d : ℝ) (hd : d ≠ 0)
    (hE : E (ix2 e p) = (w : EReal)) (hD : D (ix2 (target e) p) = (d : EReal)) : share E D (ix2 e p) = ((w * (1 / d) : ℝ) : EReal) := by
  have hg := gather_scores D (wrapped targets) e p (target e) (wrapped_apply _ _ _ (target_word e))
  show Ideal.div (E (ix2 e p)) _ = _
  rw [hg, hE, hD, Ideal.div_coe hd, EReal.coe_mul]

/-- The features gathered into a node. -/
theorem gathered_apply (H : FVec Ideal S16384x4x32 .f32) (A : FVec Ideal S507904x4 .f32) (b : Fin 512) (j : Fin 32) (p : Fin 4) (c : Fin 32)
    (h a : Fin 32 → ℝ) (hH : ∀ i, H (ix3 (agent b i) p c) = (h i : EReal))
    (hA : ∀ e, graphOf e = b → dst (rowOf e) = j → A (ix2 e p) = (a (src (rowOf e)) : EReal)) :
    gathered H A (ix3 (agent b j) p c) = ((∑ i, if j = i then 0 else h i * a i : ℝ) : EReal) := by
  have hz : ∀ y, (broadcastInDim S16384x4x32 ![] bcast_S_S16384x4x32 (constant (F := Ideal) S_ .f32 0x00000000#32)) y = 0 := by
    intro y
    pointwise
  have hb : ∀ e, (broadcastInDim S507904x4x32 ![0, 1, 2] bcast_S507904x4x1_S507904x4x32_0_1_2
      (broadcastInDim S507904x4x1 ![0, 1] bcast_S507904x4_S507904x4x1_0_1 A)) (ix3 e p c) = A (ix2 e p) := by
    intro e
    pointwise
  refine (scatter_features _ hz _ target (fun e => (column_apply _ e).trans (target_word e)) _ _ _ _).trans ?_
  refine (sum_edges b j _ (fun i => ((h i * a i : ℝ) : EReal)) fun e he hj => ?_).trans ?_
  · refine (congrArg₂ (· * ·) (gather_features H _ e p c (source e) (wrapped_apply _ _ _ (source_word e))) (hb e)).trans ?_
    rw [hA e he hj, source, he, hH, EReal.coe_mul]
  · refine sum_coe _ _ _ fun i _ => ?_
    split <;> rfl

/-- The features of a node. -/
theorem feat_apply (X : FVec Ideal S16384x128 .f32) (W : FVec Ideal S128x128 .f32) (x : Fin 32 → Fin 128 → ℝ) (w : Fin 128 → Fin 128 → ℝ)
    (b : Fin 512) (a : Fin 32) (hX : ∀ k, X (ix2 (agent b a) k) = (x a k : EReal)) (hW : ∀ f k, W (ix2 f k) = (w f k : EReal)) (p : Fin 4) (c : Fin 32) :
    feat X W (ix3 (agent b a) p c) = ((lin x w a (lane p c) : ℝ) : EReal) := by
  pointwise [feat]
  refine sum_coe _ _ _ fun k _ => ?_
  rw [hX, hW, ← EReal.coe_mul]
  exact congrArg (fun f => ((x a k * w f k : ℝ) : EReal)) (Fin.ext (by simp only [lane]; omega))

/-- The score of a node. -/
theorem att_apply (H : FVec Ideal S16384x4x32 .f32) (U : FVec Ideal S4x32 .f32) (h : Fin 32 → Fin 128 → ℝ) (u : Fin 128 → ℝ) (b : Fin 512) (a : Fin 32)
    (hH : ∀ p c, H (ix3 (agent b a) p c) = (h a (lane p c) : EReal)) (hU : ∀ p c, U (ix2 p c) = (u (lane p c) : EReal)) (p : Fin 4) :
    att H U (ix2 (agent b a) p) = ((score h u a p : ℝ) : EReal) := by
  pointwise [att]
  exact sum_coe _ _ _ fun k _ => by rw [hH, hU, ← EReal.coe_mul]

/-- The bias and the cut. -/
theorem finish_apply (C : FVec Ideal S16384x4x32 .f32) (B : FVec Ideal S128 .f32) (n : Fin 16384) (f : Fin 128) (c b : ℝ)
    (hC : C (ix3 n (head f) (off f)) = (c : EReal)) (hB : B (ix1 f) = (b : EReal)) : finish C B (ix2 n f) = ((max (c + b) 0 : ℝ) : EReal) := by
  pointwise [finish]
  refine (congrArg₂ (fun s t => max (s + t) 0) hC hB).trans ?_
  rw [← EReal.coe_add, coe_max]
  rfl

/-- The logit of an edge. -/
theorem logit_apply (H : FVec Ideal S16384x4x32 .f32) (U V : FVec Ideal S4x32 .f32) (h : Fin 512 → Fin 32 → Fin 128 → ℝ) (u v : Fin 128 → ℝ)
    (hH : ∀ b a p c, H (ix3 (agent b a) p c) = (h b a (lane p c) : EReal)) (hU : ∀ p c, U (ix2 p c) = (u (lane p c) : EReal))
    (hV : ∀ p c, V (ix2 p c) = (v (lane p c) : EReal)) (e : Fin 507904) (p : Fin 4) :
    slack (meet (att H U) (att H V)) (ix2 e p) = ((logit (h (graphOf e)) u v (src (rowOf e)) (dst (rowOf e)) p : ℝ) : EReal) := by
  refine slack_apply _ e p _ ((meet_apply _ _ e p).trans ?_)
  rw [source, target, att_apply H U (h (graphOf e)) u _ _ (hH _ _) hU, att_apply H V (h (graphOf e)) v _ _ (hH _ _) hV, EReal.coe_add]

/-- One layer from its features: at an agent of a graph, the layer of that graph's features. -/
theorem convolve_apply (H : FVec Ideal S16384x4x32 .f32) (U V : FVec Ideal S4x32 .f32) (B : FVec Ideal S128 .f32) (h : Fin 512 → Fin 32 → Fin 128 → ℝ)
    (u v b : Fin 128 → ℝ) (hH : ∀ g a p c, H (ix3 (agent g a) p c) = (h g a (lane p c) : EReal)) (hU : ∀ p c, U (ix2 p c) = (u (lane p c) : EReal))
    (hV : ∀ p c, V (ix2 p c) = (v (lane p c) : EReal)) (hB : ∀ f, B (ix1 f) = (b f : EReal)) (g : Fin 512) (j : Fin 32) (f : Fin 128) :
    convolve H U V B (ix2 (agent g j) f) = ((gat (h g) u v b j f : ℝ) : EReal) := by
  have hL := logit_apply H U V h u v hH hU hV
  obtain ⟨r, hr⟩ := tame_apply (top (slack (meet (att H U) (att H V)))) (ix2 (agent g j) (head f))
  have hE : ∀ e, graphOf e = g → dst (rowOf e) = j →
      hefts H U V (ix2 e (head f)) = ((Real.exp (logit (h g) u v (src (rowOf e)) j (head f) - r) : ℝ) : EReal) := by
    intro e he hj
    have ht : target e = agent g j := by rw [target, he, hj]
    refine heft_apply _ _ e (head f) _ r ?_ (by rw [ht]; exact hr)
    rw [hL, he, hj]
  have hD := total_apply (hefts H U V) g j (head f) (fun i => Real.exp (logit (h g) u v i j (head f) - r)) hE
  refine finish_apply _ B _ f _ _ ?_ (hB f)
  refine (gathered_apply H _ g j (head f) (off f) (fun i => h g i f)
    (fun i => Real.exp (logit (h g) u v i j (head f) - r) * (1 / ∑ i', if j = i' then 0 else Real.exp (logit (h g) u v i' j (head f) - r)))
    (fun i => ?_) (fun e he hj => ?_)).trans ?_
  · rw [hH, lane_head_off]
  · have ht : target e = agent g j := by rw [target, he, hj]
    exact share_apply _ _ e (head f) _ _ (shifted_pos (h g) u v j (head f) r).ne' (hE e he hj) (by rw [ht]; exact hD)
  · rw [shifted]

/-- One layer: at an agent of a graph, the layer of that graph's nodes. -/
theorem layer_apply (X : FVec Ideal S16384x128 .f32) (W : FVec Ideal S128x128 .f32) (U V : FVec Ideal S4x32 .f32) (B : FVec Ideal S128 .f32)
    (x : Fin 512 → Fin 32 → Fin 128 → ℝ) (w : Fin 128 → Fin 128 → ℝ) (u v b : Fin 128 → ℝ) (hX : ∀ g a k, X (ix2 (agent g a) k) = (x g a k : EReal))
    (hW : ∀ f k, W (ix2 f k) = (w f k : EReal)) (hU : ∀ p c, U (ix2 p c) = (u (lane p c) : EReal)) (hV : ∀ p c, V (ix2 p c) = (v (lane p c) : EReal))
    (hB : ∀ f, B (ix1 f) = (b f : EReal)) (g : Fin 512) (j : Fin 32) (f : Fin 128) :
    layer X W U V B (ix2 (agent g j) f) = ((gat (lin (x g) w) u v b j f : ℝ) : EReal) :=
  convolve_apply _ U V B (fun g => lin (x g) w) u v b (fun g a => feat_apply X W (x g) w g a (hX g a) hW) hU hV hB g j f

end Cert.ReferenceIdeal.Gat

end
-- ==== Proof.Finite.lean ====
/- What the precondition says: every array it tests holds real numbers only. -/
module

public import proofs.«01_k».proof.Defs
public import proofs.«01_k».proof.Proof.Gen.Pre_finite
public import proofs.«01_k».proof.Proof.Array
public import proofs.«01_k».proof.Proof.LayerValue
public import Idealize.ShloMosaic.Lib.ReduceAll
public import Idealize.ShloMosaic.Lib.Pointwise

@[expose] public section

set_option maxRecDepth 16384

noncomputable section

namespace Cert.Pre_finite.Read

open Idealize.ShloMosaic Cert.Pre_finite Cert.Gat

/-- The scalar shape has one index. -/
theorem one_index : Subsingleton S_.Idx := ⟨fun _ _ => funext fun a => a.elim0⟩

/-- A test that every absolute value lies below infinity, passed: the array is real. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : IsReal x := by
  have ht : Ideal.ofBits .f32 0x7F800000#32 = ⊤ := by simp [Ideal.ofBits, Ideal.ieee]
  haveI := one_index
  intro y
  have hy : BitVec.ofBool (decide ((FloatOps.absf (F := Ideal) (φ := .f32) (x y) : EReal) < Ideal.ofBits .f32 0x7F800000#32)) = 1#1 :=
    Host.reduce_andi_all _ _ hr hu ix0 h y
  rw [ht] at hy
  refine (ReferenceIdeal.Gat.real_of_abs_lt ?_).symm
  by_contra hc
  rw [decide_eq_false hc] at hy
  exact absurd hy (by decide)

/-- Two tests joined, passed: each is passed. -/
theorem both {a b : IVec S_ 1} (h : andi a b ix0 = 1#1) : a ix0 = 1#1 ∧ b ix0 = 1#1 := IntOp.andi_eq_one.1 h

/-- **The precondition, read**: where it holds, the arrays it tests are real. -/
theorem finite_args (A : Args)
    (h : fn (F := Ideal) A.sig A.act A.W1 A.u1 A.v1 A.b1 A.W2 A.u2 A.v2 A.b2 A.inW A.inB A.outW A.outB A.lmW A.lmB A.apW A.apB = fun _ => 1#1) :
    A.Finite := by
  have h := congrFun h ix0
  unfold fn fn_part1 fn_part2 fn_part3 at h
  dsimp only at h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  have hw (i : Fin 256) (k : Fin 128) : (extractStridedSlice S256x128 ![0, 0] A.inW Facts.slices_S384x128_S256x128_0_0) (ix2 i k) = A.inW (ix2 ⟨i.val, by omega⟩ k) := by
    pointwise []
  have hb (i : Fin 256) : (extractStridedSlice S256 ![0] A.inB Facts.slices_S384_S256_0) (ix1 i) = A.inB (ix1 ⟨i.val, by omega⟩) := by
    pointwise []
  refine ⟨real_of_all _ _ _ _ h0, real_of_all _ _ _ _ h1, real_of_all _ _ _ _ h2, real_of_all _ _ _ _ h3, real_of_all _ _ _ _ h4,
    real_of_all _ _ _ _ h5, real_of_all _ _ _ _ h6, real_of_all _ _ _ _ h7, real_of_all _ _ _ _ h8, real_of_all _ _ _ _ h9, fun i k => ?_, fun i => ?_⟩
  · have := real_of_all _ _ _ _ h10 (ix2 i k)
    rwa [hw] at this
  · have := real_of_all _ _ _ _ h11 (ix1 i)
    rwa [hb] at this

end Cert.Pre_finite.Read

end
-- ==== Proof.Project.lean ====
/- The reference after its two attention layers, as functions of the node features: agent 0's row, the attention over a sequence of one,
   and the linear maps. -/
module

public import proofs.«01_k».proof.Proof.LayerValue

@[expose] public section

set_option maxRecDepth 16384

noncomputable section

open scoped BigOperators

namespace Cert.ReferenceIdeal.Gat

open Idealize.ShloMosaic Cert.ReferenceIdeal Cert.ReferenceIdeal.Gen Cert.ReferenceIdeal.Read Cert.Gat

/-- Agent 0's row of every graph. -/
def egos (Y : FVec Ideal S16384x128 .f32) : FVec Ideal S512x128 .f32 :=
  Host.gather gather_S16384x128_S512x1_S512x128_1_0_n_n_0_1_1128 Y (val_main_v197 (F := Ideal))

/-- Queries, keys and values side by side. -/
def project (R : FVec Ideal S512x128 .f32) (W : FVec Ideal S384x128 .f32) (B : FVec Ideal S384 .f32) : FVec Ideal S512x1x384 .f32 :=
  addf
    (Host.dotGeneral dot_S512x1x128_S128x384_S512x1x384_2_0_01_1_n_n none
      (broadcastInDim S512x1x128 ![0, 2] bcast_S512x128_S512x1x128_0_2 R) (transpose S128x384 [1, 0] W transposes_S384x128_S128x384_1_0))
    (broadcastInDim S512x1x384 ![0, 1, 2] bcast_S1x1x384_S512x1x384_0_1_2 (broadcastInDim S1x1x384 ![2] bcast_S384_S1x1x384_2 B))

/-- One third of the projection by head. -/
def heads (Q : FVec Ideal S512x1x128 .f32) : FVec Ideal S512x4x1x32 .f32 :=
  transpose S512x4x1x32 [0, 2, 1, 3] (shapeCast S512x1x4x32 Q shapeCasts_S512x1x128_S512x1x4x32) transposes_S512x1x4x32_S512x4x1x32_0_2_1_3

/-- The queries, the keys, the values. -/
def queries (P : FVec Ideal S512x1x384 .f32) : FVec Ideal S512x4x1x32 .f32 :=
  heads (extractStridedSlice S512x1x128 ![0, 0, 0] P slices_S512x1x384_S512x1x128_0_0_0)
def keys (P : FVec Ideal S512x1x384 .f32) : FVec Ideal S512x4x1x32 .f32 :=
  heads (extractStridedSlice S512x1x128 ![0, 0, 128] P slices_S512x1x384_S512x1x128_0_0_128)
def values (P : FVec Ideal S512x1x384 .f32) : FVec Ideal S512x4x1x32 .f32 :=
  heads (extractStridedSlice S512x1x128 ![0, 0, 256] P slices_S512x1x384_S512x1x128_0_0_256)

/-- The one score of every head. -/
def marks (P : FVec Ideal S512x1x384 .f32) : FVec Ideal S512x4x1x1 .f32 :=
  select (val_main_call9_v1 (F := Ideal))
    (Host.divf
      (Host.dotGeneral dot_S512x4x1x32_S512x4x32x1_S512x4x1x1_3_2_2_3_01_01 none (queries P)
        (transpose S512x4x32x1 [0, 1, 3, 2] (keys P) transposes_S512x4x1x32_S512x4x32x1_0_1_3_2))
      (broadcastInDim S512x4x1x1 ![] bcast_S_S512x4x1x1 (id (Host.sqrt (constant S_ .f32 0x42000000#32)))))
    (val_main_call9_v2 (F := Ideal))

/-- The greatest of the one score. -/
def peak (S : FVec Ideal S512x4x1x1 .f32) : FVec Ideal S512x4x1 .f32 :=
  maximumf (broadcastInDim S512x4x1 ![] bcast_S_S512x4x1 (constant S_ .f32 0xFF800000#32))
    (Host.reduce FloatOps.maximumf S (constant S_ .f32 0xFF800000#32) reducesTo_S512x4x1x1_S512x4x1_d3 h_S_)

/-- The exponential of the score less the greatest. -/
def powers (S : FVec Ideal S512x4x1x1 .f32) : FVec Ideal S512x4x1x1 .f32 :=
  Host.exp (subf S (broadcastInDim S512x4x1x1 ![0, 1, 2] bcast_S512x4x1_S512x4x1x1_0_1_2 (peak S)))

/-- The softmax of one score. -/
def soft (S : FVec Ideal S512x4x1x1 .f32) : FVec Ideal S512x4x1x1 .f32 :=
  Host.divf (powers S) (broadcastInDim S512x4x1x1 ![0, 1, 2] bcast_S512x4x1_S512x4x1x1_0_1_2
    (Host.reduceAdd (powers S) (constant S_ .f32 0x00000000#32) reducesTo_S512x4x1x1_S512x4x1_d3 h_S_))

/-- The attention over the sequence of one. -/
def attend (P : FVec Ideal S512x1x384 .f32) : FVec Ideal S512x1x128 .f32 :=
  shapeCast _
    (transpose S512x1x4x32 [0, 2, 1, 3]
      (Host.dotGeneral dot_S512x4x1x1_S512x4x1x32_S512x4x1x32_3_2_2_3_01_01 none (soft (marks P)) (values P))
      transposes_S512x4x1x32_S512x1x4x32_0_2_1_3)
    shapeCasts_S512x1x4x32_S512x1x128

/-- The output projection. -/
def project_out (O : FVec Ideal S512x1x128 .f32) (W : FVec Ideal S128x128 .f32) (B : FVec Ideal S128 .f32) : FVec Ideal S512x128 .f32 :=
  shapeCast _
    (addf (Host.dotGeneral dot_S512x1x128_S128x128_S512x1x128_2_0_01_1_n_n none O (transpose S128x128 [1, 0] W transposes_S128x128_S128x128_1_0))
      (broadcastInDim S512x1x128 ![0, 1, 2] bcast_S1x1x128_S512x1x128_0_1_2 (broadcastInDim S1x1x128 ![2] bcast_S128_S1x1x128_2 B)))
    shapeCasts_S512x1x128_S512x128

/-- The first dense layer. -/
def dense (R : FVec Ideal S512x128 .f32) (W : FVec Ideal S64x128 .f32) (B : FVec Ideal S64 .f32) : FVec Ideal S512x64 .f32 :=
  addf (Host.dotGeneral dot_S512x128_S128x64_S512x64_1_0_0_1_n_n none R (transpose S128x64 [1, 0] W transposes_S64x128_S128x64_1_0))
    (broadcastInDim S512x64 ![0, 1] bcast_S1x64_S512x64_0_1 (broadcastInDim S1x64 ![1] bcast_S64_S1x64_1 B))

/-- The second dense layer. -/
def predict (R : FVec Ideal S512x64 .f32) (W : FVec Ideal S256x64 .f32) (B : FVec Ideal S256 .f32) : FVec Ideal S512x256 .f32 :=
  addf (Host.dotGeneral dot_S512x64_S64x256_S512x256_1_0_0_1_n_n none R (transpose S64x256 [1, 0] W transposes_S256x64_S64x256_1_0))
    (broadcastInDim S512x256 ![0, 1] bcast_S1x256_S512x256_0_1 (broadcastInDim S1x256 ![1] bcast_S256_S1x256_1 B))

/-- Everything after the two attention layers. -/
def finale (Y : FVec Ideal S16384x128 .f32) (W : FVec Ideal S384x128 .f32) (B : FVec Ideal S384 .f32) (OW : FVec Ideal S128x128 .f32)
    (OB : FVec Ideal S128 .f32) (LW : FVec Ideal S64x128 .f32) (LB : FVec Ideal S64 .f32) (AW : FVec Ideal S256x64 .f32) (AB : FVec Ideal S256 .f32) :
    FVec Ideal S512x256 .f32 :=
  predict (dense (project_out (attend (project (egos Y) W B)) OW OB) LW LB) AW AB

/-- The reference is its two layers and what follows them. -/
theorem reference_eq (x0 : FVec Ideal S512x120 .f32) (x1 : FVec Ideal S512x256 .f32) (x2 : FVec Ideal S128x128 .f32) (x3 x4 : FVec Ideal S4x32 .f32)
    (x5 : FVec Ideal S128 .f32) (x6 : FVec Ideal S128x128 .f32) (x7 x8 : FVec Ideal S4x32 .f32) (x9 : FVec Ideal S128 .f32)
    (x10 : FVec Ideal S384x128 .f32) (x11 : FVec Ideal S384 .f32) (x12 : FVec Ideal S128x128 .f32) (x13 : FVec Ideal S128 .f32)
    (x14 : FVec Ideal S64x128 .f32) (x15 : FVec Ideal S64 .f32) (x16 : FVec Ideal S256x64 .f32) (x17 : FVec Ideal S256 .f32) :
    val_main_v251 (F := Ideal) x0 x1 x2 x3 x4 x5 x6 x7 x8 x9 x10 x11 x12 x13 x14 x15 x16 x17
      = finale (val_main_v186 (F := Ideal) x0 x1 x2 x3 x4 x5 x6 x7 x8 x9) x10 x11 x12 x13 x14 x15 x16 x17 := rfl

end Cert.ReferenceIdeal.Gat

end
-- ==== Proof.ProjectValue.lean ====
/- What follows the two attention layers in the reference, read at an index: the attention over a sequence of one passes its values on,
   and the rest is the linear maps `Cert.Gat.tail` names. -/
module

public import proofs.«01_k».proof.Proof.Project

@[expose] public section

set_option maxRecDepth 16384

noncomputable section

open scoped BigOperators

namespace Cert.ReferenceIdeal.Gat

open Idealize.ShloMosaic Cert.ReferenceIdeal Cert.ReferenceIdeal.Gen Cert.ReferenceIdeal.Read Cert.Gat

/-- The index word of agent 0 of a graph. -/
theorem ego_word (g : Fin 512) : val_main_v197 (F := Ideal) (ix2 g 0) = BitVec.ofNat 32 (agent g 0).val := by
  have hw : val_main_v197 (F := Ideal) (ix2 g 0)
      = Scalar.select (IntOp.cmpi .slt (IntOp.addi 0#32 (IntOp.muli 32#32 (BitVec.ofNat 32 g.val))) 0#32)
          (IntOp.addi (IntOp.addi 0#32 (IntOp.muli 32#32 (BitVec.ofNat 32 g.val))) 16384#32)
          (IntOp.addi 0#32 (IntOp.muli 32#32 (BitVec.ofNat 32 g.val))) := by
    pointwise [val_main_v197, val_main_v196, val_main_v195, val_main_v194, val_main_v193, val_main_v192, val_main_v191, val_main_v190, val_main_v189,
      val_main_v188, val_main_v187, val_main_c_41, val_main_c_42, val_main_c_43, val_main_c_44]
  have hn : IntOp.addi 0#32 (IntOp.muli 32#32 (BitVec.ofNat 32 g.val)) = BitVec.ofNat 32 (agent g 0).val := by
    apply BitVec.eq_of_toNat_eq
    simp only [IntOp.addi, IntOp.muli, agent, BitVec.toNat_add, BitVec.toNat_mul, BitVec.toNat_ofNat]
    omega
  have hl := (agent g 0).isLt
  rw [hw, hn]
  refine Routing.wrap_of_lt _ _ ?_
  rw [BitVec.toNat_ofNat]
  omega

/-- Agent 0's row. -/
theorem egos_apply (Y : FVec Ideal S16384x128 .f32) (g : Fin 512) (f : Fin 128) : egos Y (ix2 g f) = Y (ix2 (agent g 0) f) :=
  gather_ego _ _ _ _ _ (ego_word g)

/-- The projection to queries, keys and values is an affine map. -/
theorem project_apply (R : FVec Ideal S512x128 .f32) (W : FVec Ideal S384x128 .f32) (B : FVec Ideal S384 .f32) (g : Fin 512) (i : Fin 384) :
    project R W B (ix3 g 0 i) = affine (fun k => R (ix2 g k)) (fun f k => W (ix2 f k)) (fun f => B (ix1 f)) i := by
  pointwise [project]
  rfl

/-- A third of the projection at a head and channel. -/
theorem heads_apply (Q : FVec Ideal S512x1x128 .f32) (g : Fin 512) (p : Fin 4) (c : Fin 32) :
    heads Q (ix4 g p 0 c) = Q (ix3 g 0 (lane p c)) := by
  pointwise [heads]
  exact congrArg (fun f => Q (ix3 g 0 f)) (Fin.ext (by simp only [lane]; omega))

/-- The queries are the first 128 entries of the projection. -/
theorem queries_apply (P : FVec Ideal S512x1x384 .f32) (g : Fin 512) (p : Fin 4) (c : Fin 32) :
    queries P (ix4 g p 0 c) = P (ix3 g 0 ⟨(lane p c).val, by omega⟩) := by
  refine (heads_apply _ g p c).trans ?_
  pointwise

/-- The keys are the next 128. -/
theorem keys_apply (P : FVec Ideal S512x1x384 .f32) (g : Fin 512) (p : Fin 4) (c : Fin 32) :
    keys P (ix4 g p 0 c) = P (ix3 g 0 ⟨128 + (lane p c).val, by omega⟩) := by
  refine (heads_apply _ g p c).trans ?_
  pointwise

/-- The values are the last 128. -/
theorem values_apply (P : FVec Ideal S512x1x384 .f32) (g : Fin 512) (p : Fin 4) (c : Fin 32) :
    values P (ix4 g p 0 c) = P (ix3 g 0 ⟨256 + (lane p c).val, by omega⟩) := by
  refine (heads_apply _ g p c).trans ?_
  pointwise

/-- The square root of 32 that the scores are divided by, as a positive real number. -/
theorem root_value : (id (Host.sqrt (constant (F := Ideal) S_ .f32 0x42000000#32))) ix0 = ((Real.sqrt 32 : ℝ) : EReal) := by
  have h32 : Ideal.ofBits .f32 0x42000000#32 = ((32 : ℝ) : EReal) := by
    simp [Ideal.ofBits, Ideal.ieee, -EReal.coe_mul]
    norm_num
  show Ideal.sqrt (Ideal.ofBits .f32 0x42000000#32) = _
  rw [h32, Ideal.sqrt_coe, if_neg (by norm_num)]

/-- With real queries and keys the one score of a head is a real number. -/
theorem marks_real (P : FVec Ideal S512x1x384 .f32) (g : Fin 512) (p : Fin 4)
    (hP : ∀ i : Fin 256, ∃ r : ℝ, P (ix3 g 0 ⟨i.val, by omega⟩) = (r : EReal)) : ∃ r : ℝ, marks P (ix4 g p 0 0) = (r : EReal) := by
  choose r hr using hP
  have hm : marks P (ix4 g p 0 0)
      = Ideal.div (∑ x, queries P (ix4 g p 0 x) * keys P (ix4 g p 0 x)) ((id (Host.sqrt (constant (F := Ideal) S_ .f32 0x42000000#32))) ix0) := by
    pointwise [marks, val_main_call9_v1, val_main_v222, val_main_v221, val_main_call8_v4, val_main_v220, val_main_call8_v5, val_main_c_46,
      val_main_call8_v3, val_main_call8_v2, val_main_call8_v0, val_main_call8_v1, val_main_call8_c]
    rfl
  have hs : ∑ x, queries P (ix4 g p 0 x) * keys P (ix4 g p 0 x)
      = ((∑ c : Fin 32, r ⟨(lane p c).val, by omega⟩ * r ⟨128 + (lane p c).val, by omega⟩ : ℝ) : EReal) := by
    refine sum_coe _ _ _ fun c _ => ?_
    rw [queries_apply, keys_apply, EReal.coe_mul]
    exact congrArg₂ (· * ·) (hr ⟨(lane p c).val, by omega⟩) (hr ⟨128 + (lane p c).val, by omega⟩)
  rw [hm, hs, root_value, Ideal.div_coe (Real.sqrt_pos.2 (by norm_num)).ne', ← EReal.coe_mul]
  exact ⟨_, rfl⟩

/-- The greatest of one score is that score. -/
theorem peak_apply (S : FVec Ideal S512x4x1x1 .f32) (g : Fin 512) (p : Fin 4) : peak S (ix3 g p 0) = S (ix4 g p 0 0) := by
  have hb : Ideal.ofBits .f32 0xFF800000#32 = ⊥ := by simp [Ideal.ofBits, Ideal.ieee]
  pointwise [peak]
  rw [hb, max_eq_right bot_le]
  exact (Finset.fold_singleton (op := max) (f := fun x : Fin 1 => S (ix4 g p 0 x)) (b := (⊥ : EReal)) (a := 0)).trans (max_eq_left bot_le)

/-- The exponential of a real score less itself is 1. -/
theorem powers_apply (S : FVec Ideal S512x4x1x1 .f32) (g : Fin 512) (p : Fin 4) (r : ℝ) (h : S (ix4 g p 0 0) = (r : EReal)) :
    powers S (ix4 g p 0 0) = ((1 : ℝ) : EReal) := by
  pointwise [powers]
  rw [peak_apply, h, ← EReal.coe_sub, Ideal.exp_coe, sub_self, Real.exp_zero]

/-- The softmax of one real score is 1. -/
theorem soft_apply (S : FVec Ideal S512x4x1x1 .f32) (g : Fin 512) (p : Fin 4) (r : ℝ) (h : S (ix4 g p 0 0) = (r : EReal)) :
    soft S (ix4 g p 0 0) = 1 := by
  pointwise [soft]
  refine (congrArg₂ Ideal.div rfl (Fin.sum_univ_one (fun x : Fin 1 => powers S (ix4 g p 0 x)))).trans ?_
  rw [powers_apply S g p r h, Ideal.div_coe one_ne_zero, ← EReal.coe_mul]
  norm_num

/-- With real queries and keys the attention over a sequence of one is the values. -/
theorem attend_apply (P : FVec Ideal S512x1x384 .f32) (g : Fin 512)
    (hP : ∀ i : Fin 256, ∃ r : ℝ, P (ix3 g 0 ⟨i.val, by omega⟩) = (r : EReal)) (f : Fin 128) :
    attend P (ix3 g 0 f) = P (ix3 g 0 ⟨256 + f.val, by omega⟩) := by
  have hr : attend P (ix3 g 0 f) = ∑ x : Fin 1, soft (marks P) (ix4 g (head f) 0 x) * values P (ix4 g (head f) x (off f)) := by
    pointwise [attend]
    rfl
  obtain ⟨r, h⟩ := marks_real P g (head f) hP
  rw [hr, Fin.sum_univ_one, soft_apply _ g (head f) r h, one_mul, values_apply]
  exact congrArg (fun k : Fin 128 => P (ix3 g 0 ⟨256 + k.val, by omega⟩)) (lane_head_off f)

/-- The output projection is an affine map. -/
theorem project_out_apply (O : FVec Ideal S512x1x128 .f32) (W : FVec Ideal S128x128 .f32) (B : FVec Ideal S128 .f32) (g : Fin 512) (f : Fin 128) :
    project_out O W B (ix2 g f) = affine (fun k => O (ix3 g 0 k)) (fun f k => W (ix2 f k)) (fun f => B (ix1 f)) f := by
  pointwise [project_out]
  rfl

/-- The first dense layer is an affine map. -/
theorem dense_apply (R : FVec Ideal S512x128 .f32) (W : FVec Ideal S64x128 .f32) (B : FVec Ideal S64 .f32) (g : Fin 512) (f : Fin 64) :
    dense R W B (ix2 g f) = affine (fun k => R (ix2 g k)) (fun f k => W (ix2 f k)) (fun f => B (ix1 f)) f := by
  pointwise [dense]
  rfl

/-- The second dense layer is an affine map. -/
theorem predict_apply (R : FVec Ideal S512x64 .f32) (W : FVec Ideal S256x64 .f32) (B : FVec Ideal S256 .f32) (g : Fin 512) (f : Fin 256) :
    predict R W B (ix2 g f) = affine (fun k => R (ix2 g k)) (fun f k => W (ix2 f k)) (fun f => B (ix1 f)) f := by
  pointwise [predict]
  rfl

/-- What follows the attention layers, at a graph whose agent 0 has real features and real queries and keys. -/
theorem finale_apply (Y : FVec Ideal S16384x128 .f32) (W : FVec Ideal S384x128 .f32) (B : FVec Ideal S384 .f32) (OW : FVec Ideal S128x128 .f32)
    (OB : FVec Ideal S128 .f32) (LW : FVec Ideal S64x128 .f32) (LB : FVec Ideal S64 .f32) (AW : FVec Ideal S256x64 .f32) (AB : FVec Ideal S256 .f32)
    (g : Fin 512) (y : Fin 128 → ℝ) (hY : ∀ f, Y (ix2 (agent g 0) f) = (y f : EReal))
    (hW : ∀ (i : Fin 256) (k : Fin 128), W (ix2 ⟨i.val, by omega⟩ k) = ((W (ix2 ⟨i.val, by omega⟩ k)).toReal : EReal))
    (hB : ∀ i : Fin 256, B (ix1 ⟨i.val, by omega⟩) = ((B (ix1 ⟨i.val, by omega⟩)).toReal : EReal)) (o : Fin 256) :
    finale Y W B OW OB LW LB AW AB (ix2 g o)
      = tail (fun f => (y f : EReal)) (fun f k => W (ix2 ⟨256 + f.val, by omega⟩ k)) (fun f => B (ix1 ⟨256 + f.val, by omega⟩))
          (fun f k => OW (ix2 f k)) (fun f => OB (ix1 f)) (fun f k => LW (ix2 f k)) (fun f => LB (ix1 f)) (fun f k => AW (ix2 f k)) (fun f => AB (ix1 f)) o := by
  have hrow : (fun k => egos Y (ix2 g k)) = fun f => (y f : EReal) := funext fun k => (egos_apply Y g k).trans (hY k)
  have hP : ∀ i : Fin 256, ∃ r : ℝ, project (egos Y) W B (ix3 g 0 ⟨i.val, by omega⟩) = (r : EReal) := by
    intro i
    refine ⟨(∑ k, y k * (W (ix2 ⟨i.val, by omega⟩ k)).toReal) + (B (ix1 ⟨i.val, by omega⟩)).toReal, ?_⟩
    rw [project_apply, hrow, affine, EReal.coe_add, ← hB i]
    exact congrArg (· + _) (sum_coe _ _ _ fun k _ => by rw [EReal.coe_mul, ← hW i k])
  have ha : (fun k => attend (project (egos Y) W B) (ix3 g 0 k))
      = affine (fun f => (y f : EReal)) (fun f k => W (ix2 ⟨256 + f.val, by omega⟩ k)) (fun f => B (ix1 ⟨256 + f.val, by omega⟩)) := by
    funext k
    rw [attend_apply _ g hP, project_apply, hrow]
    rfl
  have ho : (fun k => project_out (attend (project (egos Y) W B)) OW OB (ix2 g k)) = _ := funext fun k => (project_out_apply _ OW OB g k)
  have hd : (fun k => dense (project_out (attend (project (egos Y) W B)) OW OB) LW LB (ix2 g k)) = _ := funext fun k => (dense_apply _ LW LB g k)
  rw [finale, predict_apply, hd, ho, ha]
  rfl

end Cert.ReferenceIdeal.Gat

end
-- ==== Proof.Nodes.lean ====
/- The node features of the reference, read at an index: agent 0 of a graph has the signals, every agent its own actions. -/
module

public import proofs.«01_k».proof.Proof.ProjectValue
public import proofs.«01_k».proof.Proof.Result
public import Idealize.ShloMosaic.Lib.Routing.OpsSet

@[expose] public section

set_option maxRecDepth 16384

noncomputable section

open scoped BigOperators

namespace Cert.ReferenceIdeal.Gat

open Idealize.ShloMosaic Cert.ReferenceIdeal Cert.ReferenceIdeal.Gen Cert.ReferenceIdeal.Read Cert.Gat

/-- Signals and actions side by side, node by node. -/
theorem joined_apply (S : FVec Ideal S512x32x120 .f32) (x1 : FVec Ideal S512x256 .f32) (g : Fin 512) (a : Fin 32) (k : Fin 128) :
    (shapeCast S16384x128 (concatenate S512x32x128 2 [⟨S512x32x120, S⟩, ⟨S512x32x8, val_main_v0 (F := Ideal) x1⟩]
      concatenates_S512x32x120_S512x32x8_S512x32x128_d2) shapeCasts_S512x32x128_S16384x128) (ix2 (agent g a) k)
      = if h : k.val < 120 then S (ix3 g a ⟨k.val, h⟩) else x1 (ix2 g ⟨8 * a.val + (k.val - 120), by omega⟩) := by
  have hg : ∀ h, (⟨(agent g a).val / 32, h⟩ : Fin 512) = g := fun h => Fin.ext (by simp only [agent]; omega)
  have ha : ∀ h, (⟨(agent g a).val % 32, h⟩ : Fin 32) = a := fun h => Fin.ext (by simp only [agent]; omega)
  have hc : ∀ h h', (⟨(agent g a).val % 32 * 8 + (k.val - 120), h⟩ : Fin 256) = ⟨8 * a.val + (k.val - 120), h'⟩ :=
    fun h h' => Fin.ext (by simp only [agent]; omega)
  pointwise [val_main_v0]
  split
  · rw [hg, ha]
  · rw [hg, hc]

/-- Where a signal lands: its graph, agent 0, its place. -/
theorem signal_lands (w : IVec S1 32) (hw : ∀ y, w y = 0#32) (g g' : Fin 512) (a : Fin 32) (k k' : Fin 120) :
    scatter_S512x32x120_S1_S512x120_01_1_1_0.resultIdx? (ix2 g k) w = some (ix3 g' a k') ↔ g = g' ∧ a = 0 ∧ k = k' := by
  rw [Routing.resultIdx?_eq_some]
  refine (Fin.forall_fin_succ.trans (and_congr Iff.rfl Fin.forall_fin_two)).trans (and_congr ?_ (and_congr ?_ ?_))
  · show (0 : Int) + (g.val : Int) = (g'.val : Int) ↔ _
    rw [Fin.ext_iff]
    omega
  · show scatter_S512x32x120_S1_S512x120_01_1_1_0.start (ix2 g k) w 1 + ((0 : ℕ) : Int) = (a.val : Int) ↔ _
    unfold ScatterDims.start
    rw [dif_pos (show (1 : Fin S512x32x120.rank) ∈ scatter_S512x32x120_S1_S512x120_01_1_1_0.scatterDimsToOperandDims from List.mem_singleton.2 rfl), hw,
      Fin.ext_iff]
    show (0 : Int) + ((0 : ℕ) : Int) = (a.val : Int) ↔ a.val = 0
    omega
  · show (0 : Int) + (k.val : Int) = (k'.val : Int) ↔ _
    rw [Fin.ext_iff]
    omega

/-- The signals' place: agent 0 of every graph holds them, the other agents hold 0. -/
theorem signals_apply (x0 : FVec Ideal S512x120 .f32) (g : Fin 512) (a : Fin 32) (k : Fin 120) :
    val_main_v3 (F := Ideal) x0 (ix3 g a k) = if a = 0 then x0 (ix2 g k) else 0 := by
  have hw : ∀ y, val_main_v2 (F := Ideal) y = 0#32 := fun y => val_main_v2_apply y
  have hz : val_main_v1 (F := Ideal) (ix3 g a k) = 0 := by
    pointwise [val_main_v1, val_main_cst]
  unfold val_main_v3
  by_cases h : a = 0
  · rw [if_pos h]
    refine Routing.scatter_set_hit _ _ _ _ _ _ (fun j hj => ?_) (ix2 g k) ((signal_lands _ hw g g a k k).2 ⟨rfl, h, rfl⟩)
    obtain ⟨g', k', rfl⟩ : ∃ (g' : Fin 512) (k' : Fin 120), j = ix2 g' k' := ⟨j 0, j 1, eq_ix2 j⟩
    obtain ⟨h1, -, h2⟩ := (signal_lands _ hw g' g a k' k).1 hj
    rw [h1, h2]
  · rw [if_neg h]
    refine (Routing.scatter_set_miss _ _ _ _ _ fun j hj => ?_).trans hz
    obtain ⟨g', k', rfl⟩ : ∃ (g' : Fin 512) (k' : Fin 120), j = ix2 g' k' := ⟨j 0, j 1, eq_ix2 j⟩
    exact h ((signal_lands _ hw g' g a k' k).1 hj).2.1

variable (A : Args) (hA : A.Finite)

include hA in
/-- The node features of the reference. -/
theorem nodes_apply (g : Fin 512) (a : Fin 32) (k : Fin 128) :
    val_main_v5 (F := Ideal) A.sig A.act (ix2 (agent g a) k) = ((node (A.rsig g) (A.ract g) a k : ℝ) : EReal) := by
  refine (joined_apply _ A.act g a k).trans ?_
  unfold node
  split
  · rw [signals_apply]
    split
    · exact hA.sig _
    · rfl
  · exact hA.act _

/-- A table of attention weights, read by lane. -/
theorem weights_lane (U : Arr2 4 32) (hU : IsReal U) (p : Fin 4) (c : Fin 32) :
    U (ix2 p c) = ((U (ix2 (head (lane p c)) (off (lane p c)))).toReal : EReal) := by
  rw [head_lane, off_lane]
  exact hU _

include hA in
/-- The first layer of the reference. -/
theorem first_apply (g : Fin 512) (a : Fin 32) (f : Fin 128) :
    val_main_v107 (F := Ideal) A.sig A.act A.W1 A.u1 A.v1 A.b1 (ix2 (agent g a) f)
      = ((gat (lin (node (A.rsig g) (A.ract g)) A.rW1) A.ru1 A.rv1 A.rb1 a f : ℝ) : EReal) := by
  rw [layer_one]
  exact layer_apply _ _ _ _ _ (fun g => node (A.rsig g) (A.ract g)) A.rW1 A.ru1 A.rv1 A.rb1 (nodes_apply A hA) (fun _ _ => hA.W1 _)
    (weights_lane _ hA.u1) (weights_lane _ hA.v1) (fun _ => hA.b1 _) g a f

include hA in
/-- The second layer of the reference at agent 0. -/
theorem second_apply (g : Fin 512) (f : Fin 128) :
    val_main_v186 (F := Ideal) A.sig A.act A.W1 A.u1 A.v1 A.b1 A.W2 A.u2 A.v2 A.b2 (ix2 (agent g 0) f) = ((A.egoOf g f : ℝ) : EReal) := by
  rw [layer_two]
  exact layer_apply _ _ _ _ _ (fun g => gat (lin (node (A.rsig g) (A.ract g)) A.rW1) A.ru1 A.rv1 A.rb1) A.rW2 A.ru2 A.rv2 A.rb2 (first_apply A hA)
    (fun _ _ => hA.W2 _) (weights_lane _ hA.u2) (weights_lane _ hA.v2) (fun _ => hA.b2 _) g 0 f

include hA in
/-- **The reference's result.** -/
theorem reference_result :
    val_main_v251 (F := Ideal) A.sig A.act A.W1 A.u1 A.v1 A.b1 A.W2 A.u2 A.v2 A.b2 A.inW A.inB A.outW A.outB A.lmW A.lmB A.apW A.apB = A.result := by
  rw [reference_eq]
  funext y
  obtain ⟨g, o, rfl⟩ : ∃ (g : Fin 512) (o : Fin 256), y = ix2 g o := ⟨y 0, y 1, eq_ix2 y⟩
  exact finale_apply _ _ _ _ _ _ _ _ _ g (A.egoOf g) (second_apply A hA g) hA.inW hA.inB o

end Cert.ReferenceIdeal.Gat

end
-- ==== Proof.Equal.lean ====
/- The kernel and the reference leave the same result. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Nodes

@[expose] public section

set_option maxRecDepth 16384

noncomputable section

namespace Cert.Gat

open Idealize.ShloMosaic Idealize.ShloMosaic.TcCoe Idealize.SL.Sem

/-- The reference's result at arrays equal to the arguments. -/
theorem reference_of (A : Args) (hA : A.Finite) {x0 : Arr2 512 120} {x1 : Arr2 512 256} {x2 : Arr2 128 128} {x3 x4 : Arr2 4 32} {x5 : Arr1 128}
    {x6 : Arr2 128 128} {x7 x8 : Arr2 4 32} {x9 : Arr1 128} {x10 : Arr2 384 128} {x11 : Arr1 384} {x12 : Arr2 128 128} {x13 : Arr1 128}
    {x14 : Arr2 64 128} {x15 : Arr1 64} {x16 : Arr2 256 64} {x17 : Arr1 256} (h0 : x0 = A.sig) (h1 : x1 = A.act) (h2 : x2 = A.W1) (h3 : x3 = A.u1)
    (h4 : x4 = A.v1) (h5 : x5 = A.b1) (h6 : x6 = A.W2) (h7 : x7 = A.u2) (h8 : x8 = A.v2) (h9 : x9 = A.b2) (h10 : x10 = A.inW) (h11 : x11 = A.inB)
    (h12 : x12 = A.outW) (h13 : x13 = A.outB) (h14 : x14 = A.lmW) (h15 : x15 = A.lmB) (h16 : x16 = A.apW) (h17 : x17 = A.apB) :
    Cert.ReferenceIdeal.Read.val_main_v251 (F := Ideal) x0 x1 x2 x3 x4 x5 x6 x7 x8 x9 x10 x11 x12 x13 x14 x15 x16 x17 = A.result := by
  subst h0 h1 h2 h3 h4 h5 h6 h7 h8 h9 h10 h11 h12 h13 h14 h15 h16 h17
  exact Cert.ReferenceIdeal.Gat.reference_result A hA

/-- **The algebraic claim.** From memories that agree on the arguments, with the tested arrays real, both programs end with `Args.result`. -/
theorem equal : Cert.algebraic_KernelIdeal_ReferenceIdeal_pre_finite := by
  intro m g m' g' hpre hag
  have hfin : ∀ c, (Cert.KernelIdeal.Block.args m c).Finite := fun c => Cert.Pre_finite.Read.finite_args _ (hpre c)
  refine ⟨fun c => (Cert.KernelIdeal.Block.args m c).result, ?_, ?_⟩
  · refine (θ_run _ _ _).mono (fun r h c => ?_) (Cert.KernelIdeal.Value.run_blocks m g)
    exact ⟨(h c).1.trans (Cert.KernelIdeal.Block.final m c (hfin c)), (h c).2⟩
  · refine (θ_run _ _ _).mono (fun r h c => ?_) (Cert.ReferenceIdeal.Value.run m' g')
    obtain ⟨h0, h1, h2, h3, h4, h5, h6, h7, h8, h9, h10, h11, h12, h13, h14, h15, h16, h17⟩ := hag c
    exact ⟨(h c).1.trans ((Cert.ReferenceIdeal.Read.val_main_v251_eq (StableHlo.launchContents m' c)).trans
      (reference_of (Cert.KernelIdeal.Block.args m c) (hfin c) h0 h1 h2 h3 h4 h5 h6 h7 h8 h9 h10 h11 h12 h13 h14 h15 h16 h17)), (h c).2⟩

end Cert.Gat

end
-- ==== Proof.lean ====
/- The claims about the kernel of two graph-attention layers and its reference, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's slope constant and its idealization: bf16 0x3E4D, named as the f32 nearest 0.2. -/
theorem preserves : Cert.preserves_Kernel_KernelIdeal :=
  IdealRules.named_const.statement Cert.KernelIdeal.κ "slope" .bf16 0x3E4D#16 ((13421773 / 67108864 : ℝ) : EReal) rfl

/-- **All claims**: both kernels and the reference run clean, the idealization preserves the kernel, and the idealized kernel and the reference
    leave the same result. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, Cert.Gat.equal⟩

end Cert.Proof

end
